-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Plain (m : (ℓ : Loc Cert.Plain.nD Cert.Plain.τ Cert.Plain.sig) → Buf (Elt Bits) ℓ) : Prop :=
  True

def Pre_PlainIdeal (m : (ℓ : Loc Cert.PlainIdeal.nD Cert.PlainIdeal.τ Cert.PlainIdeal.sig) → Buf (Elt Ideal) ℓ) : Prop :=
  True

def Pre_PlainIdeal_inputs_in_range [hPre_inputs_in_range : Cert.Pre_inputs_in_range.Facts] (m : (ℓ : Loc Cert.PlainIdeal.nD Cert.PlainIdeal.τ Cert.PlainIdeal.sig) → Buf (Elt Ideal) ℓ) : Prop :=
  ∀ c : Dev Cert.PlainIdeal.nD,
    (Cert.Pre_inputs_in_range.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2)) (m ((c.tc : Thread Cert.PlainIdeal.nD Cert.PlainIdeal.τ).loc Cert.PlainIdeal.main_arg3)) (m ((c.tc : Thread Cert.PlainIdeal.nD Cert.PlainIdeal.τ).loc Cert.PlainIdeal.main_arg4)) (m ((c.tc : Thread Cert.PlainIdeal.nD Cert.PlainIdeal.τ).loc Cert.PlainIdeal.main_arg5)) (m ((c.tc : Thread Cert.PlainIdeal.nD Cert.PlainIdeal.τ).loc Cert.PlainIdeal.main_arg6))).1 = (fun _ => 1#1)
    ∧ (Cert.Pre_inputs_in_range.fn (F := Ideal) (m ((c.tc : Thread Cert.PlainIdeal.nD Cert.PlainIdeal.τ).loc Cert.PlainIdeal.main_arg0)) (m ((c.tc : Thread Cert.PlainIdeal.nD Cert.PlainIdeal.τ).loc Cert.PlainIdeal.main_arg1)) (m ((c.tc : Thread Cert.PlainIdeal.nD Cert.PlainIdeal.τ).loc Cert.PlainIdeal.main_arg2)) (m ((c.tc : Thread Cert.PlainIdeal.nD Cert.PlainIdeal.τ).loc Cert.PlainIdeal.main_arg3)) (m ((c.tc : Thread Cert.PlainIdeal.nD Cert.PlainIdeal.τ).loc Cert.PlainIdeal.main_arg4)) (m ((c.tc : Thread Cert.PlainIdeal.nD Cert.PlainIdeal.τ).loc Cert.PlainIdeal.main_arg5)) (m ((c.tc : Thread Cert.PlainIdeal.nD Cert.PlainIdeal.τ).loc Cert.PlainIdeal.main_arg6))).2 = (fun _ => 1#1)

def Pre_Flip (m : (ℓ : Loc Cert.Flip.nD Cert.Flip.τ Cert.Flip.sig) → Buf (Elt Bits) ℓ) : Prop :=
  True

def Pre_FlipIdeal (m : (ℓ : Loc Cert.FlipIdeal.nD Cert.FlipIdeal.τ Cert.FlipIdeal.sig) → Buf (Elt Ideal) ℓ) : Prop :=
  True

def Pre_FlipIdeal_bounded [hPre_bounded : Cert.Pre_bounded.Facts] (m : (ℓ : Loc Cert.FlipIdeal.nD Cert.FlipIdeal.τ Cert.FlipIdeal.sig) → Buf (Elt Ideal) ℓ) : Prop :=
  ∀ c : Dev Cert.FlipIdeal.nD,
    (Cert.Pre_bounded.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2)) (m ((c.tc : Thread Cert.FlipIdeal.nD Cert.FlipIdeal.τ).loc Cert.FlipIdeal.main_arg3)) (m ((c.tc : Thread Cert.FlipIdeal.nD Cert.FlipIdeal.τ).loc Cert.FlipIdeal.main_arg4)) (m ((c.tc : Thread Cert.FlipIdeal.nD Cert.FlipIdeal.τ).loc Cert.FlipIdeal.main_arg5)) (m ((c.tc : Thread Cert.FlipIdeal.nD Cert.FlipIdeal.τ).loc Cert.FlipIdeal.main_arg6))).1 = (fun _ => 1#1)
    ∧ (Cert.Pre_bounded.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2)) (m ((c.tc : Thread Cert.FlipIdeal.nD Cert.FlipIdeal.τ).loc Cert.FlipIdeal.main_arg3)) (m ((c.tc : Thread Cert.FlipIdeal.nD Cert.FlipIdeal.τ).loc Cert.FlipIdeal.main_arg4)) (m ((c.tc : Thread Cert.FlipIdeal.nD Cert.FlipIdeal.τ).loc Cert.FlipIdeal.main_arg5)) (m ((c.tc : Thread Cert.FlipIdeal.nD Cert.FlipIdeal.τ).loc Cert.FlipIdeal.main_arg6))).2.1 = (fun _ => 1#1)
    ∧ (Cert.Pre_bounded.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2)) (m ((c.tc : Thread Cert.FlipIdeal.nD Cert.FlipIdeal.τ).loc Cert.FlipIdeal.main_arg3)) (m ((c.tc : Thread Cert.FlipIdeal.nD Cert.FlipIdeal.τ).loc Cert.FlipIdeal.main_arg4)) (m ((c.tc : Thread Cert.FlipIdeal.nD Cert.FlipIdeal.τ).loc Cert.FlipIdeal.main_arg5)) (m ((c.tc : Thread Cert.FlipIdeal.nD Cert.FlipIdeal.τ).loc Cert.FlipIdeal.main_arg6))).2.2.1 = (fun _ => 1#1)
    ∧ (Cert.Pre_bounded.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2)) (m ((c.tc : Thread Cert.FlipIdeal.nD Cert.FlipIdeal.τ).loc Cert.FlipIdeal.main_arg3)) (m ((c.tc : Thread Cert.FlipIdeal.nD Cert.FlipIdeal.τ).loc Cert.FlipIdeal.main_arg4)) (m ((c.tc : Thread Cert.FlipIdeal.nD Cert.FlipIdeal.τ).loc Cert.FlipIdeal.main_arg5)) (m ((c.tc : Thread Cert.FlipIdeal.nD Cert.FlipIdeal.τ).loc Cert.FlipIdeal.main_arg6))).2.2.2.1 = (fun _ => 1#1)
    ∧ (Cert.Pre_bounded.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2)) (m ((c.tc : Thread Cert.FlipIdeal.nD Cert.FlipIdeal.τ).loc Cert.FlipIdeal.main_arg3)) (m ((c.tc : Thread Cert.FlipIdeal.nD Cert.FlipIdeal.τ).loc Cert.FlipIdeal.main_arg4)) (m ((c.tc : Thread Cert.FlipIdeal.nD Cert.FlipIdeal.τ).loc Cert.FlipIdeal.main_arg5)) (m ((c.tc : Thread Cert.FlipIdeal.nD Cert.FlipIdeal.τ).loc Cert.FlipIdeal.main_arg6))).2.2.2.2.1 = (fun _ => 1#1)
    ∧ (Cert.Pre_bounded.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2)) (m ((c.tc : Thread Cert.FlipIdeal.nD Cert.FlipIdeal.τ).loc Cert.FlipIdeal.main_arg3)) (m ((c.tc : Thread Cert.FlipIdeal.nD Cert.FlipIdeal.τ).loc Cert.FlipIdeal.main_arg4)) (m ((c.tc : Thread Cert.FlipIdeal.nD Cert.FlipIdeal.τ).loc Cert.FlipIdeal.main_arg5)) (m ((c.tc : Thread Cert.FlipIdeal.nD Cert.FlipIdeal.τ).loc Cert.FlipIdeal.main_arg6))).2.2.2.2.2.1 = (fun _ => 1#1)
    ∧ (Cert.Pre_bounded.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2)) (m ((c.tc : Thread Cert.FlipIdeal.nD Cert.FlipIdeal.τ).loc Cert.FlipIdeal.main_arg3)) (m ((c.tc : Thread Cert.FlipIdeal.nD Cert.FlipIdeal.τ).loc Cert.FlipIdeal.main_arg4)) (m ((c.tc : Thread Cert.FlipIdeal.nD Cert.FlipIdeal.τ).loc Cert.FlipIdeal.main_arg5)) (m ((c.tc : Thread Cert.FlipIdeal.nD Cert.FlipIdeal.τ).loc Cert.FlipIdeal.main_arg6))).2.2.2.2.2.2.1 = (fun _ => 1#1)
    ∧ (Cert.Pre_bounded.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2)) (m ((c.tc : Thread Cert.FlipIdeal.nD Cert.FlipIdeal.τ).loc Cert.FlipIdeal.main_arg3)) (m ((c.tc : Thread Cert.FlipIdeal.nD Cert.FlipIdeal.τ).loc Cert.FlipIdeal.main_arg4)) (m ((c.tc : Thread Cert.FlipIdeal.nD Cert.FlipIdeal.τ).loc Cert.FlipIdeal.main_arg5)) (m ((c.tc : Thread Cert.FlipIdeal.nD Cert.FlipIdeal.τ).loc Cert.FlipIdeal.main_arg6))).2.2.2.2.2.2.2.1 = (fun _ => 1#1)
    ∧ (Cert.Pre_bounded.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2)) (m ((c.tc : Thread Cert.FlipIdeal.nD Cert.FlipIdeal.τ).loc Cert.FlipIdeal.main_arg3)) (m ((c.tc : Thread Cert.FlipIdeal.nD Cert.FlipIdeal.τ).loc Cert.FlipIdeal.main_arg4)) (m ((c.tc : Thread Cert.FlipIdeal.nD Cert.FlipIdeal.τ).loc Cert.FlipIdeal.main_arg5)) (m ((c.tc : Thread Cert.FlipIdeal.nD Cert.FlipIdeal.τ).loc Cert.FlipIdeal.main_arg6))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Plain [hPlain : Cert.Plain.Facts] : Prop :=
  ∀ (m : (ℓ : Loc Cert.Plain.nD Cert.Plain.τ Cert.Plain.sig) → Buf (Elt Bits) ℓ) (g : Dev Cert.Plain.nD → PrngReg), Pre_Plain m →
    θ_run (Cert.Plain.defs (F := Bits)) (onTc (τ := Cert.Plain.τ) (Cert.Plain.main (F := Bits))) ⟨m, fun _ => 0, g⟩ (fun r => (∀ c : Dev Cert.Plain.nD,
      r.2.mem ((c.tc : Thread Cert.Plain.nD Cert.Plain.τ).loc Cert.Plain.main_arg0) = m ((c.tc : Thread Cert.Plain.nD Cert.Plain.τ).loc Cert.Plain.main_arg0)
      ∧ r.2.mem ((c.tc : Thread Cert.Plain.nD Cert.Plain.τ).loc Cert.Plain.main_arg1) = m ((c.tc : Thread Cert.Plain.nD Cert.Plain.τ).loc Cert.Plain.main_arg1)
      ∧ r.2.mem ((c.tc : Thread Cert.Plain.nD Cert.Plain.τ).loc Cert.Plain.main_arg2) = m ((c.tc : Thread Cert.Plain.nD Cert.Plain.τ).loc Cert.Plain.main_arg2)
      ∧ r.2.mem ((c.tc : Thread Cert.Plain.nD Cert.Plain.τ).loc Cert.Plain.main_arg3) = m ((c.tc : Thread Cert.Plain.nD Cert.Plain.τ).loc Cert.Plain.main_arg3)
      ∧ r.2.mem ((c.tc : Thread Cert.Plain.nD Cert.Plain.τ).loc Cert.Plain.main_arg4) = m ((c.tc : Thread Cert.Plain.nD Cert.Plain.τ).loc Cert.Plain.main_arg4)
      ∧ r.2.mem ((c.tc : Thread Cert.Plain.nD Cert.Plain.τ).loc Cert.Plain.main_arg5) = m ((c.tc : Thread Cert.Plain.nD Cert.Plain.τ).loc Cert.Plain.main_arg5)
      ∧ r.2.mem ((c.tc : Thread Cert.Plain.nD Cert.Plain.τ).loc Cert.Plain.main_arg6) = m ((c.tc : Thread Cert.Plain.nD Cert.Plain.τ).loc Cert.Plain.main_arg6))
      ∧ r.2.sem = fun _ => 0)

def quiescent_PlainIdeal [hPlainIdeal : Cert.PlainIdeal.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
      ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
      ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6))
      ∧ r.2.sem = fun _ => 0)

def quiescent_PlainIdeal_pre_inputs_in_range [hPlainIdeal : Cert.PlainIdeal.Facts] [hPre_inputs_in_range : Cert.Pre_inputs_in_range.Facts] : Prop :=
  ∀ (m : (ℓ : Loc Cert.PlainIdeal.nD Cert.PlainIdeal.τ Cert.PlainIdeal.sig) → Buf (Elt Ideal) ℓ) (g : Dev Cert.PlainIdeal.nD → PrngReg), Pre_PlainIdeal_inputs_in_range m →
    θ_run (Cert.PlainIdeal.defs (F := Ideal)) (onTc (τ := Cert.PlainIdeal.τ) (Cert.PlainIdeal.main (F := Ideal))) ⟨m, fun _ => 0, g⟩ (fun r => (∀ c : Dev Cert.PlainIdeal.nD,
      r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
      ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
      ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
      ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
      ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
      ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
      ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6))
      ∧ r.2.sem = fun _ => 0)

def quiescent_Flip [hFlip : Cert.Flip.Facts] : Prop :=
  ∀ (m : (ℓ : Loc Cert.Flip.nD Cert.Flip.τ Cert.Flip.sig) → Buf (Elt Bits) ℓ) (g : Dev Cert.Flip.nD → PrngReg), Pre_Flip m →
    θ_run (Cert.Flip.defs (F := Bits)) (onTc (τ := Cert.Flip.τ) (Cert.Flip.main (F := Bits))) ⟨m, fun _ => 0, g⟩ (fun r => (∀ c : Dev Cert.Flip.nD,
      r.2.mem ((c.tc : Thread Cert.Flip.nD Cert.Flip.τ).loc Cert.Flip.main_arg0) = m ((c.tc : Thread Cert.Flip.nD Cert.Flip.τ).loc Cert.Flip.main_arg0)
      ∧ r.2.mem ((c.tc : Thread Cert.Flip.nD Cert.Flip.τ).loc Cert.Flip.main_arg1) = m ((c.tc : Thread Cert.Flip.nD Cert.Flip.τ).loc Cert.Flip.main_arg1)
      ∧ r.2.mem ((c.tc : Thread Cert.Flip.nD Cert.Flip.τ).loc Cert.Flip.main_arg2) = m ((c.tc : Thread Cert.Flip.nD Cert.Flip.τ).loc Cert.Flip.main_arg2)
      ∧ r.2.mem ((c.tc : Thread Cert.Flip.nD Cert.Flip.τ).loc Cert.Flip.main_arg3) = m ((c.tc : Thread Cert.Flip.nD Cert.Flip.τ).loc Cert.Flip.main_arg3)
      ∧ r.2.mem ((c.tc : Thread Cert.Flip.nD Cert.Flip.τ).loc Cert.Flip.main_arg4) = m ((c.tc : Thread Cert.Flip.nD Cert.Flip.τ).loc Cert.Flip.main_arg4)
      ∧ r.2.mem ((c.tc : Thread Cert.Flip.nD Cert.Flip.τ).loc Cert.Flip.main_arg5) = m ((c.tc : Thread Cert.Flip.nD Cert.Flip.τ).loc Cert.Flip.main_arg5)
      ∧ r.2.mem ((c.tc : Thread Cert.Flip.nD Cert.Flip.τ).loc Cert.Flip.main_arg6) = m ((c.tc : Thread Cert.Flip.nD Cert.Flip.τ).loc Cert.Flip.main_arg6))
      ∧ r.2.sem = fun _ => 0)

def quiescent_FlipIdeal [hFlipIdeal : Cert.FlipIdeal.Facts] : Prop :=
  ∀ (m : (ℓ : Loc Cert.FlipIdeal.nD Cert.FlipIdeal.τ Cert.FlipIdeal.sig) → Buf (Elt Ideal) ℓ) (g : Dev Cert.FlipIdeal.nD → PrngReg), Pre_FlipIdeal m →
    θ_run (Cert.FlipIdeal.defs (F := Ideal)) (onTc (τ := Cert.FlipIdeal.τ) (Cert.FlipIdeal.main (F := Ideal))) ⟨m, fun _ => 0, g⟩ (fun r => (∀ c : Dev Cert.FlipIdeal.nD,
      r.2.mem ((c.tc : Thread Cert.FlipIdeal.nD Cert.FlipIdeal.τ).loc Cert.FlipIdeal.main_arg0) = m ((c.tc : Thread Cert.FlipIdeal.nD Cert.FlipIdeal.τ).loc Cert.FlipIdeal.main_arg0)
      ∧ r.2.mem ((c.tc : Thread Cert.FlipIdeal.nD Cert.FlipIdeal.τ).loc Cert.FlipIdeal.main_arg1) = m ((c.tc : Thread Cert.FlipIdeal.nD Cert.FlipIdeal.τ).loc Cert.FlipIdeal.main_arg1)
      ∧ r.2.mem ((c.tc : Thread Cert.FlipIdeal.nD Cert.FlipIdeal.τ).loc Cert.FlipIdeal.main_arg2) = m ((c.tc : Thread Cert.FlipIdeal.nD Cert.FlipIdeal.τ).loc Cert.FlipIdeal.main_arg2)
      ∧ r.2.mem ((c.tc : Thread Cert.FlipIdeal.nD Cert.FlipIdeal.τ).loc Cert.FlipIdeal.main_arg3) = m ((c.tc : Thread Cert.FlipIdeal.nD Cert.FlipIdeal.τ).loc Cert.FlipIdeal.main_arg3)
      ∧ r.2.mem ((c.tc : Thread Cert.FlipIdeal.nD Cert.FlipIdeal.τ).loc Cert.FlipIdeal.main_arg4) = m ((c.tc : Thread Cert.FlipIdeal.nD Cert.FlipIdeal.τ).loc Cert.FlipIdeal.main_arg4)
      ∧ r.2.mem ((c.tc : Thread Cert.FlipIdeal.nD Cert.FlipIdeal.τ).loc Cert.FlipIdeal.main_arg5) = m ((c.tc : Thread Cert.FlipIdeal.nD Cert.FlipIdeal.τ).loc Cert.FlipIdeal.main_arg5)
      ∧ r.2.mem ((c.tc : Thread Cert.FlipIdeal.nD Cert.FlipIdeal.τ).loc Cert.FlipIdeal.main_arg6) = m ((c.tc : Thread Cert.FlipIdeal.nD Cert.FlipIdeal.τ).loc Cert.FlipIdeal.main_arg6))
      ∧ r.2.sem = fun _ => 0)

def quiescent_FlipIdeal_pre_bounded [hFlipIdeal : Cert.FlipIdeal.Facts] [hPre_bounded : Cert.Pre_bounded.Facts] : Prop :=
  ∀ (m : (ℓ : Loc Cert.FlipIdeal.nD Cert.FlipIdeal.τ Cert.FlipIdeal.sig) → Buf (Elt Ideal) ℓ) (g : Dev Cert.FlipIdeal.nD → PrngReg), Pre_FlipIdeal_bounded m →
    θ_run (Cert.FlipIdeal.defs (F := Ideal)) (onTc (τ := Cert.FlipIdeal.τ) (Cert.FlipIdeal.main (F := Ideal))) ⟨m, fun _ => 0, g⟩ (fun r => (∀ c : Dev Cert.FlipIdeal.nD,
      r.2.mem ((c.tc : Thread Cert.FlipIdeal.nD Cert.FlipIdeal.τ).loc Cert.FlipIdeal.main_arg0) = m ((c.tc : Thread Cert.FlipIdeal.nD Cert.FlipIdeal.τ).loc Cert.FlipIdeal.main_arg0)
      ∧ r.2.mem ((c.tc : Thread Cert.FlipIdeal.nD Cert.FlipIdeal.τ).loc Cert.FlipIdeal.main_arg1) = m ((c.tc : Thread Cert.FlipIdeal.nD Cert.FlipIdeal.τ).loc Cert.FlipIdeal.main_arg1)
      ∧ r.2.mem ((c.tc : Thread Cert.FlipIdeal.nD Cert.FlipIdeal.τ).loc Cert.FlipIdeal.main_arg2) = m ((c.tc : Thread Cert.FlipIdeal.nD Cert.FlipIdeal.τ).loc Cert.FlipIdeal.main_arg2)
      ∧ r.2.mem ((c.tc : Thread Cert.FlipIdeal.nD Cert.FlipIdeal.τ).loc Cert.FlipIdeal.main_arg3) = m ((c.tc : Thread Cert.FlipIdeal.nD Cert.FlipIdeal.τ).loc Cert.FlipIdeal.main_arg3)
      ∧ r.2.mem ((c.tc : Thread Cert.FlipIdeal.nD Cert.FlipIdeal.τ).loc Cert.FlipIdeal.main_arg4) = m ((c.tc : Thread Cert.FlipIdeal.nD Cert.FlipIdeal.τ).loc Cert.FlipIdeal.main_arg4)
      ∧ r.2.mem ((c.tc : Thread Cert.FlipIdeal.nD Cert.FlipIdeal.τ).loc Cert.FlipIdeal.main_arg5) = m ((c.tc : Thread Cert.FlipIdeal.nD Cert.FlipIdeal.τ).loc Cert.FlipIdeal.main_arg5)
      ∧ r.2.mem ((c.tc : Thread Cert.FlipIdeal.nD Cert.FlipIdeal.τ).loc Cert.FlipIdeal.main_arg6) = m ((c.tc : Thread Cert.FlipIdeal.nD Cert.FlipIdeal.τ).loc Cert.FlipIdeal.main_arg6))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Plain_PlainIdeal : Prop :=
  True

def algebraic_PlainIdeal_ReferenceIdeal_pre_inputs_in_range [hPlainIdeal : Cert.PlainIdeal.Facts] [hReferenceIdeal : Cert.ReferenceIdeal.Facts] [hPre_inputs_in_range : Cert.Pre_inputs_in_range.Facts] : Prop :=
  ∀ (m : (ℓ : Loc Cert.PlainIdeal.nD Cert.PlainIdeal.τ Cert.PlainIdeal.sig) → Buf (Elt Ideal) ℓ) (g : Dev Cert.PlainIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_PlainIdeal_inputs_in_range m →
    (∀ c : Dev Cert.PlainIdeal.nD,
      m' ((c.tc : Thread Cert.ReferenceIdeal.nD Cert.ReferenceIdeal.τ).loc Cert.ReferenceIdeal.main_arg0) = m ((c.tc : Thread Cert.PlainIdeal.nD Cert.PlainIdeal.τ).loc Cert.PlainIdeal.main_arg0)
      ∧ m' ((c.tc : Thread Cert.ReferenceIdeal.nD Cert.ReferenceIdeal.τ).loc Cert.ReferenceIdeal.main_arg1) = m ((c.tc : Thread Cert.PlainIdeal.nD Cert.PlainIdeal.τ).loc Cert.PlainIdeal.main_arg1)
      ∧ m' ((c.tc : Thread Cert.ReferenceIdeal.nD Cert.ReferenceIdeal.τ).loc Cert.ReferenceIdeal.main_arg2) = m ((c.tc : Thread Cert.PlainIdeal.nD Cert.PlainIdeal.τ).loc Cert.PlainIdeal.main_arg2)
      ∧ m' ((c.tc : Thread Cert.ReferenceIdeal.nD Cert.ReferenceIdeal.τ).loc Cert.ReferenceIdeal.main_arg3) = m ((c.tc : Thread Cert.PlainIdeal.nD Cert.PlainIdeal.τ).loc Cert.PlainIdeal.main_arg3)
      ∧ m' ((c.tc : Thread Cert.ReferenceIdeal.nD Cert.ReferenceIdeal.τ).loc Cert.ReferenceIdeal.main_arg4) = m ((c.tc : Thread Cert.PlainIdeal.nD Cert.PlainIdeal.τ).loc Cert.PlainIdeal.main_arg4)
      ∧ m' ((c.tc : Thread Cert.ReferenceIdeal.nD Cert.ReferenceIdeal.τ).loc Cert.ReferenceIdeal.main_arg5) = m ((c.tc : Thread Cert.PlainIdeal.nD Cert.PlainIdeal.τ).loc Cert.PlainIdeal.main_arg5)
      ∧ m' ((c.tc : Thread Cert.ReferenceIdeal.nD Cert.ReferenceIdeal.τ).loc Cert.ReferenceIdeal.main_arg6) = m ((c.tc : Thread Cert.PlainIdeal.nD Cert.PlainIdeal.τ).loc Cert.PlainIdeal.main_arg6)) →
    ∃ (v0 : (c : Dev Cert.PlainIdeal.nD) → Buf (Elt Ideal) ((c.tc : Thread Cert.PlainIdeal.nD Cert.PlainIdeal.τ).loc Cert.PlainIdeal.main_v38)),
      θ_run (Cert.PlainIdeal.defs (F := Ideal)) (onTc (τ := Cert.PlainIdeal.τ) (Cert.PlainIdeal.main (F := Ideal))) ⟨m, fun _ => 0, g⟩ (fun r => ∀ c : Dev Cert.PlainIdeal.nD,
          r.2.mem ((c.tc : Thread Cert.PlainIdeal.nD Cert.PlainIdeal.τ).loc Cert.PlainIdeal.main_v38) = v0 c
          ∧ r.2.mem ((c.tc : Thread Cert.PlainIdeal.nD Cert.PlainIdeal.τ).loc Cert.PlainIdeal.main_arg0) = m ((c.tc : Thread Cert.PlainIdeal.nD Cert.PlainIdeal.τ).loc Cert.PlainIdeal.main_arg0)
          ∧ r.2.mem ((c.tc : Thread Cert.PlainIdeal.nD Cert.PlainIdeal.τ).loc Cert.PlainIdeal.main_arg1) = m ((c.tc : Thread Cert.PlainIdeal.nD Cert.PlainIdeal.τ).loc Cert.PlainIdeal.main_arg1)
          ∧ r.2.mem ((c.tc : Thread Cert.PlainIdeal.nD Cert.PlainIdeal.τ).loc Cert.PlainIdeal.main_arg2) = m ((c.tc : Thread Cert.PlainIdeal.nD Cert.PlainIdeal.τ).loc Cert.PlainIdeal.main_arg2)
          ∧ r.2.mem ((c.tc : Thread Cert.PlainIdeal.nD Cert.PlainIdeal.τ).loc Cert.PlainIdeal.main_arg3) = m ((c.tc : Thread Cert.PlainIdeal.nD Cert.PlainIdeal.τ).loc Cert.PlainIdeal.main_arg3)
          ∧ r.2.mem ((c.tc : Thread Cert.PlainIdeal.nD Cert.PlainIdeal.τ).loc Cert.PlainIdeal.main_arg4) = m ((c.tc : Thread Cert.PlainIdeal.nD Cert.PlainIdeal.τ).loc Cert.PlainIdeal.main_arg4)
          ∧ r.2.mem ((c.tc : Thread Cert.PlainIdeal.nD Cert.PlainIdeal.τ).loc Cert.PlainIdeal.main_arg5) = m ((c.tc : Thread Cert.PlainIdeal.nD Cert.PlainIdeal.τ).loc Cert.PlainIdeal.main_arg5)
          ∧ r.2.mem ((c.tc : Thread Cert.PlainIdeal.nD Cert.PlainIdeal.τ).loc Cert.PlainIdeal.main_arg6) = m ((c.tc : Thread Cert.PlainIdeal.nD Cert.PlainIdeal.τ).loc Cert.PlainIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Flip_FlipIdeal : Prop :=
  True

def holds_FlipIdeal_near_pre_bounded [hFlipIdeal : Cert.FlipIdeal.Facts] [hPre_bounded : Cert.Pre_bounded.Facts] [hPost_near : Cert.Post_near.Facts] : Prop :=
  ∀ (m : (ℓ : Loc Cert.FlipIdeal.nD Cert.FlipIdeal.τ Cert.FlipIdeal.sig) → Buf (Elt Ideal) ℓ) (g : Dev Cert.FlipIdeal.nD → PrngReg), Pre_FlipIdeal_bounded m →
    θ_run (Cert.FlipIdeal.defs (F := Ideal)) (onTc (τ := Cert.FlipIdeal.τ) (Cert.FlipIdeal.main (F := Ideal))) ⟨m, fun _ => 0, g⟩ (fun r => ∀ c : Dev Cert.FlipIdeal.nD,
      r.2.mem ((c.tc : Thread Cert.FlipIdeal.nD Cert.FlipIdeal.τ).loc Cert.FlipIdeal.main_arg0) = m ((c.tc : Thread Cert.FlipIdeal.nD Cert.FlipIdeal.τ).loc Cert.FlipIdeal.main_arg0)
      ∧ r.2.mem ((c.tc : Thread Cert.FlipIdeal.nD Cert.FlipIdeal.τ).loc Cert.FlipIdeal.main_arg1) = m ((c.tc : Thread Cert.FlipIdeal.nD Cert.FlipIdeal.τ).loc Cert.FlipIdeal.main_arg1)
      ∧ r.2.mem ((c.tc : Thread Cert.FlipIdeal.nD Cert.FlipIdeal.τ).loc Cert.FlipIdeal.main_arg2) = m ((c.tc : Thread Cert.FlipIdeal.nD Cert.FlipIdeal.τ).loc Cert.FlipIdeal.main_arg2)
      ∧ r.2.mem ((c.tc : Thread Cert.FlipIdeal.nD Cert.FlipIdeal.τ).loc Cert.FlipIdeal.main_arg3) = m ((c.tc : Thread Cert.FlipIdeal.nD Cert.FlipIdeal.τ).loc Cert.FlipIdeal.main_arg3)
      ∧ r.2.mem ((c.tc : Thread Cert.FlipIdeal.nD Cert.FlipIdeal.τ).loc Cert.FlipIdeal.main_arg4) = m ((c.tc : Thread Cert.FlipIdeal.nD Cert.FlipIdeal.τ).loc Cert.FlipIdeal.main_arg4)
      ∧ r.2.mem ((c.tc : Thread Cert.FlipIdeal.nD Cert.FlipIdeal.τ).loc Cert.FlipIdeal.main_arg5) = m ((c.tc : Thread Cert.FlipIdeal.nD Cert.FlipIdeal.τ).loc Cert.FlipIdeal.main_arg5)
      ∧ r.2.mem ((c.tc : Thread Cert.FlipIdeal.nD Cert.FlipIdeal.τ).loc Cert.FlipIdeal.main_arg6) = m ((c.tc : Thread Cert.FlipIdeal.nD Cert.FlipIdeal.τ).loc Cert.FlipIdeal.main_arg6)
      ∧ (Cert.Post_near.fn (F := Ideal) (m ((c.tc : Thread Cert.FlipIdeal.nD Cert.FlipIdeal.τ).loc Cert.FlipIdeal.main_arg0)) (m ((c.tc : Thread Cert.FlipIdeal.nD Cert.FlipIdeal.τ).loc Cert.FlipIdeal.main_arg1)) (m ((c.tc : Thread Cert.FlipIdeal.nD Cert.FlipIdeal.τ).loc Cert.FlipIdeal.main_arg2)) (m ((c.tc : Thread Cert.FlipIdeal.nD Cert.FlipIdeal.τ).loc Cert.FlipIdeal.main_arg3)) (m ((c.tc : Thread Cert.FlipIdeal.nD Cert.FlipIdeal.τ).loc Cert.FlipIdeal.main_arg4)) (m ((c.tc : Thread Cert.FlipIdeal.nD Cert.FlipIdeal.τ).loc Cert.FlipIdeal.main_arg5)) (m ((c.tc : Thread Cert.FlipIdeal.nD Cert.FlipIdeal.τ).loc Cert.FlipIdeal.main_arg6)) (r.2.mem ((c.tc : Thread Cert.FlipIdeal.nD Cert.FlipIdeal.τ).loc Cert.FlipIdeal.main_v44))) = (fun _ => 1#1))

def Claim : Prop :=
  ∃ (hKernel : Cert.Kernel.Facts) (hKernelIdeal : Cert.KernelIdeal.Facts) (hReferenceIdeal : Cert.ReferenceIdeal.Facts) (hPlain : Cert.Plain.Facts) (hPlainIdeal : Cert.PlainIdeal.Facts) (hFlip : Cert.Flip.Facts) (hFlipIdeal : Cert.FlipIdeal.Facts) (hPre_inputs_in_range : Cert.Pre_inputs_in_range.Facts) (hPre_bounded : Cert.Pre_bounded.Facts) (hPost_near : Cert.Post_near.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ quiescent_Plain (hPlain := hPlain)
    ∧ quiescent_PlainIdeal (hPlainIdeal := hPlainIdeal)
    ∧ quiescent_PlainIdeal_pre_inputs_in_range (hPlainIdeal := hPlainIdeal) (hPre_inputs_in_range := hPre_inputs_in_range)
    ∧ quiescent_Flip (hFlip := hFlip)
    ∧ quiescent_FlipIdeal (hFlipIdeal := hFlipIdeal)
    ∧ quiescent_FlipIdeal_pre_bounded (hFlipIdeal := hFlipIdeal) (hPre_bounded := hPre_bounded)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
    ∧ preserves_Plain_PlainIdeal
    ∧ algebraic_PlainIdeal_ReferenceIdeal_pre_inputs_in_range (hPlainIdeal := hPlainIdeal) (hReferenceIdeal := hReferenceIdeal) (hPre_inputs_in_range := hPre_inputs_in_range)
    ∧ preserves_Flip_FlipIdeal
    ∧ holds_FlipIdeal_near_pre_bounded (hFlipIdeal := hFlipIdeal) (hPre_bounded := hPre_bounded) (hPost_near := hPost_near)
-- ==== Post_near.lean ====
abbrev S128x8x1600 : Shape := ⟨3, ![128, 8, 1600]⟩
abbrev S2x128 : Shape := ⟨2, ![2, 128]⟩
abbrev S1600x128 : Shape := ⟨2, ![1600, 128]⟩
abbrev S6x6 : Shape := ⟨2, ![6, 6]⟩
abbrev S37x128 : Shape := ⟨2, ![37, 128]⟩
abbrev S128 : Shape := ⟨1, ![128]⟩
abbrev S128x1600x128 : Shape := ⟨3, ![128, 1600, 128]⟩
abbrev S128x1x1600 : Shape := ⟨3, ![128, 1, 1600]⟩
abbrev S128x1600 : Shape := ⟨2, ![128, 1600]⟩
abbrev S128x1600x1 : Shape := ⟨3, ![128, 1600, 1]⟩
abbrev S128x6x1600 : Shape := ⟨3, ![128, 6, 1600]⟩
abbrev S128x1600x6 : Shape := ⟨3, ![128, 1600, 6]⟩
abbrev S_ : Shape := ⟨0, ![]⟩
abbrev S1 : Shape := ⟨1, ![1]⟩
abbrev S1x1x1 : Shape := ⟨3, ![1, 1, 1]⟩
abbrev S128x1600x6x1 : Shape := ⟨4, ![128, 1600, 6, 1]⟩
abbrev S1x1x6x6 : Shape := ⟨4, ![1, 1, 6, 6]⟩
abbrev S128x1600x6x6 : Shape := ⟨4, ![128, 1600, 6, 6]⟩
abbrev S128x1600x6x5 : Shape := ⟨4, ![128, 1600, 6, 5]⟩
abbrev S128x1600x36 : Shape := ⟨3, ![128, 1600, 36]⟩
abbrev S128x1600x37 : Shape := ⟨3, ![128, 1600, 37]⟩
abbrev S1x1x128 : Shape := ⟨3, ![1, 1, 128]⟩

class Facts : Prop where
  slices_S128x8x1600_S128x1x1600_0_0_0 : S128x8x1600.Slices ![0, 0, 0] S128x1x1600
  shapeCasts_S128x1x1600_S128x1600 : S128x1x1600.ShapeCasts S128x1600
  bcast_S128x1600_S128x1600x1_0_1 : S128x1600.BroadcastsInDim S128x1600x1 (![0, 1] : Fin 2 → Fin S128x1600x1.rank)
  slices_S128x8x1600_S128x1x1600_0_1_0 : S128x8x1600.Slices ![0, 1, 0] S128x1x1600
  slices_S128x8x1600_S128x6x1600_0_2_0 : S128x8x1600.Slices ![0, 2, 0] S128x6x1600
  transposes_S128x6x1600_S128x1600x6_0_2_1 : S128x6x1600.Transposes [0, 2, 1] S128x1600x6
  shapeCasts_S128x1600x1_S128x1600 : S128x1600x1.ShapeCasts S128x1600
  bcast_S_S128x1600x1 : S_.BroadcastsInDim S128x1600x1 (![] : Fin 0 → Fin S128x1600x1.rank)
  bcast_S_S128x1600 : S_.BroadcastsInDim S128x1600 (![] : Fin 0 → Fin S128x1600.rank)
  natLt_1_32 : 1 < 32
  bcast_S1_S1x1x1_2 : S1.BroadcastsInDim S1x1x1 (![2] : Fin 1 → Fin S1x1x1.rank)
  bcast_S1x1x1_S128x1600x1_0_1_2 : S1x1x1.BroadcastsInDim S128x1600x1 (![0, 1, 2] : Fin 3 → Fin S128x1600x1.rank)
  reducesTo_S128x1600x1_S128x1600_d2 : S128x1600x1.ReducesTo [2] S128x1600
  h_S_ : 0 < S_.numel
  bcast_S128x1600_S128x1600x128_0_1 : S128x1600.BroadcastsInDim S128x1600x128 (![0, 1] : Fin 2 → Fin S128x1600x128.rank)
  bcast_S_S128x1600x128 : S_.BroadcastsInDim S128x1600x128 (![] : Fin 0 → Fin S128x1600x128.rank)
  bcast_S_S128x1600x6 : S_.BroadcastsInDim S128x1600x6 (![] : Fin 0 → Fin S128x1600x6.rank)
  bcast_S128x1600x6_S128x1600x6x1_0_1_2 : S128x1600x6.BroadcastsInDim S128x1600x6x1 (![0, 1, 2] : Fin 3 → Fin S128x1600x6x1.rank)
  bcast_S6x6_S1x1x6x6_2_3 : S6x6.BroadcastsInDim S1x1x6x6 (![2, 3] : Fin 2 → Fin S1x1x6x6.rank)
  bcast_S128x1600x6x1_S128x1600x6x6_0_1_2_3 : S128x1600x6x1.BroadcastsInDim S128x1600x6x6 (![0, 1, 2, 3] : Fin 4 → Fin S128x1600x6x6.rank)
  bcast_S1x1x6x6_S128x1600x6x6_0_1_2_3 : S1x1x6x6.BroadcastsInDim S128x1600x6x6 (![0, 1, 2, 3] : Fin 4 → Fin S128x1600x6x6.rank)
  slices_S128x1600x6x6_S128x1600x6x1_0_0_0_0 : S128x1600x6x6.Slices ![0, 0, 0, 0] S128x1600x6x1
  slices_S128x1600x6x6_S128x1600x6x5_0_0_0_1 : S128x1600x6x6.Slices ![0, 0, 0, 1] S128x1600x6x5
  concatenates_S128x1600x6x1_S128x1600x6x5_S128x1600x6x6_d3 : Shape.Concatenates [S128x1600x6x1, S128x1600x6x5] S128x1600x6x6 3
  shapeCasts_S128x1600x6x6_S128x1600x36 : S128x1600x6x6.ShapeCasts S128x1600x36
  concatenates_S128x1600x36_S128x1600x1_S128x1600x37_d2 : Shape.Concatenates [S128x1600x36, S128x1600x1] S128x1600x37 2
  bcast_S128_S1x1x128_2 : S128.BroadcastsInDim S1x1x128 (![2] : Fin 1 → Fin S1x1x128.rank)
  bcast_S1x1x128_S128x1600x128_0_1_2 : S1x1x128.BroadcastsInDim S128x1600x128 (![0, 1, 2] : Fin 3 → Fin S128x1600x128.rank)
  reducesTo_S37x128_S128_d0 : S37x128.ReducesTo [0] S128
  bcast_S_S1x1x128 : S_.BroadcastsInDim S1x1x128 (![] : Fin 0 → Fin S1x1x128.rank)
  gather_S2x128_S128x1600x1_S128x1600x128_2_0_n_n_0_2_1128_wf : GatherDims.WF S2x128 S128x1600x1 S128x1600x128 [2] [0] [] [0] [] 2 ![1, 128]
  gather_S1600x128_S128x1600x1_S128x1600x128_2_0_n_n_0_2_1128_wf : GatherDims.WF S1600x128 S128x1600x1 S128x1600x128 [2] [0] [] [0] [] 2 ![1, 128]
  dot_S128x1600x37_S37x128_S128x1600x128_2_0_01_1_n_n_wf : DotDims.WF S128x1600x37 S37x128 S128x1600x128 [2] [0] [0, 1] [1] [] []

variable [Facts]

def gather_S2x128_S128x1600x1_S128x1600x128_2_0_n_n_0_2_1128 : GatherDims S2x128 S128x1600x1 S128x1600x128 where
  offsetDims := [2]
  collapsedSliceDims := [0]
  operandBatchingDims := []
  startIndicesBatchingDims := []
  startIndexMap := [0]
  indexVectorDim := 2
  sliceSizes := ![1, 128]
  wf := gather_S2x128_S128x1600x1_S128x1600x128_2_0_n_n_0_2_1128_wf
def gather_S1600x128_S128x1600x1_S128x1600x128_2_0_n_n_0_2_1128 : GatherDims S1600x128 S128x1600x1 S128x1600x128 where
  offsetDims := [2]
  collapsedSliceDims := [0]
  operandBatchingDims := []
  startIndicesBatchingDims := []
  startIndexMap := [0]
  indexVectorDim := 2
  sliceSizes := ![1, 128]
  wf := gather_S1600x128_S128x1600x1_S128x1600x128_2_0_n_n_0_2_1128_wf
def dot_S128x1600x37_S37x128_S128x1600x128_2_0_01_1_n_n : DotDims S128x1600x37 S37x128 S128x1600x128 where
  lhsContracting := [2]
  rhsContracting := [0]
  lhsNonContracting := [0, 1]
  rhsNonContracting := [1]
  lhsBatch := []
  rhsBatch := []
  wf := dot_S128x1600x37_S37x128_S128x1600x128_2_0_01_1_n_n_wf
def fn_where {F : FTy → Type} [FloatOps F] (arg0 : IVec S128x1600x1 1) (arg1 : FVec F S_ .f32) (arg2 : FVec F S128x1600x1 .f32) : FVec F S128x1600x1 .f32 :=
  let v0 : FVec F S128x1600x1 .f32 := broadcastInDim S128x1600x1 ![] bcast_S_S128x1600x1 arg1
  let v1 : FVec F S128x1600x1 .f32 := select arg0 v0 arg2
  v1

def fn_nan_to_num {F : FTy → Type} [FloatOps F] (arg0 : FVec F S128x1600x1 .f32) : FVec F S128x1600x1 .f32 :=
  let v0 : IVec S128x1600x1 1 := cmpf .une arg0 arg0
  let cst : FVec F S_ .f32 := constant S_ .f32 0x00000000#32
  let v1 : FVec F S128x1600x1 .f32 := fn_where (F := F) v0 cst arg0
  let cst_0 : FVec F S_ .f32 := constant S_ .f32 0x7F800000#32
  let v2 : FVec F S128x1600x1 .f32 := broadcastInDim S128x1600x1 ![] bcast_S_S128x1600x1 cst_0
  let v3 : IVec S128x1600x1 1 := cmpf .oeq v1 v2
  let cst_1 : FVec F S_ .f32 := constant S_ .f32 0x7F7FFFFF#32
  let v4 : FVec F S128x1600x1 .f32 := fn_where (F := F) v3 cst_1 v1
  let cst_2 : FVec F S_ .f32 := constant S_ .f32 0xFF800000#32
  let v5 : FVec F S128x1600x1 .f32 := broadcastInDim S128x1600x1 ![] bcast_S_S128x1600x1 cst_2
  let v6 : IVec S128x1600x1 1 := cmpf .oeq v4 v5
  let cst_3 : FVec F S_ .f32 := constant S_ .f32 0xFF7FFFFF#32
  let v7 : FVec F S128x1600x1 .f32 := fn_where (F := F) v6 cst_3 v4
  v7

def fn_where_0 {F : FTy → Type} [FloatOps F] (arg0 : IVec S128x1600 1) (arg1 : IVec S128x1600 32) (arg2 : IVec S128x1600 32) : IVec S128x1600 32 :=
  let v0 : IVec S128x1600 32 := select arg0 arg1 arg2
  v0

def fn_take {F : FTy → Type} [FloatOps F] (arg0 : FVec F S2x128 .f32) (arg1 : IVec S128x1600 32) : FVec F S128x1600x128 .f32 :=
  let c : IVec S_ 32 := constantI S_ 32 0#32
  let v0 : IVec S128x1600 32 := broadcastInDim S128x1600 ![] bcast_S_S128x1600 c
  let v1 : IVec S128x1600 1 := cmpi .slt arg1 v0
  let c_0 : IVec S_ 32 := constantI S_ 32 2#32
  let v2 : IVec S128x1600 32 := broadcastInDim S128x1600 ![] bcast_S_S128x1600 c_0
  let v3 : IVec S128x1600 32 := addi arg1 v2
  let v4 : IVec S128x1600 32 := fn_where_0 (F := F) v1 v3 arg1
  let v5 : IVec S128x1600x1 32 := broadcastInDim S128x1600x1 ![0, 1] bcast_S128x1600_S128x1600x1_0_1 v4
  let c_1 : IVec S1 32 := constantI S1 32 1#32
  let c_2 : IVec S_ 32 := constantI S_ 32 0#32
  let v6 : IVec S128x1600x1 32 := broadcastInDim S128x1600x1 ![] bcast_S_S128x1600x1 c_2
  let v7 : IVec S128x1600x1 1 := cmpi .sge v5 v6
  let v8 : IVec S1x1x1 32 := broadcastInDim S1x1x1 ![2] bcast_S1_S1x1x1_2 c_1
  let v9 : IVec S128x1600x1 32 := broadcastInDim S128x1600x1 ![0, 1, 2] bcast_S1x1x1_S128x1600x1_0_1_2 v8
  let v10 : IVec S128x1600x1 1 := cmpi .sle v5 v9
  let v11 : IVec S128x1600x1 1 := andi v7 v10
  let c_3 : IVec S_ 1 := constantI S_ 1 1#1
  let v12 : IVec S128x1600 1 := (fun x v => Host.reduce IntOp.andi x v reducesTo_S128x1600x1_S128x1600_d2 h_S_) v11 c_3
  let v13 : FVec F S128x1600x128 .f32 := (fun x i => Host.gather gather_S2x128_S128x1600x1_S128x1600x128_2_0_n_n_0_2_1128 x i) arg0 v5
  let v14 : IVec S128x1600x128 1 := broadcastInDim S128x1600x128 ![0, 1] bcast_S128x1600_S128x1600x128_0_1 v12
  let cst : FVec F S_ .f32 := constant S_ .f32 0x7FC00000#32
  let v15 : FVec F S128x1600x128 .f32 := broadcastInDim S128x1600x128 ![] bcast_S_S128x1600x128 cst
  let v16 : FVec F S128x1600x128 .f32 := select v14 v13 v15
  v16

def fn_take_1 {F : FTy → Type} [FloatOps F] (arg0 : FVec F S1600x128 .f32) (arg1 : IVec S128x1600 32) : FVec F S128x1600x128 .f32 :=
  let c : IVec S_ 32 := constantI S_ 32 0#32
  let v0 : IVec S128x1600 32 := broadcastInDim S128x1600 ![] bcast_S_S128x1600 c
  let v1 : IVec S128x1600 1 := cmpi .slt arg1 v0
  let c_0 : IVec S_ 32 := constantI S_ 32 1600#32
  let v2 : IVec S128x1600 32 := broadcastInDim S128x1600 ![] bcast_S_S128x1600 c_0
  let v3 : IVec S128x1600 32 := addi arg1 v2
  let v4 : IVec S128x1600 32 := fn_where_0 (F := F) v1 v3 arg1
  let v5 : IVec S128x1600x1 32 := broadcastInDim S128x1600x1 ![0, 1] bcast_S128x1600_S128x1600x1_0_1 v4
  let c_1 : IVec S1 32 := constantI S1 32 1599#32
  let c_2 : IVec S_ 32 := constantI S_ 32 0#32
  let v6 : IVec S128x1600x1 32 := broadcastInDim S128x1600x1 ![] bcast_S_S128x1600x1 c_2
  let v7 : IVec S128x1600x1 1 := cmpi .sge v5 v6
  let v8 : IVec S1x1x1 32 := broadcastInDim S1x1x1 ![2] bcast_S1_S1x1x1_2 c_1
  let v9 : IVec S128x1600x1 32 := broadcastInDim S128x1600x1 ![0, 1, 2] bcast_S1x1x1_S128x1600x1_0_1_2 v8
  let v10 : IVec S128x1600x1 1 := cmpi .sle v5 v9
  let v11 : IVec S128x1600x1 1 := andi v7 v10
  let c_3 : IVec S_ 1 := constantI S_ 1 1#1
  let v12 : IVec S128x1600 1 := (fun x v => Host.reduce IntOp.andi x v reducesTo_S128x1600x1_S128x1600_d2 h_S_) v11 c_3
  let v13 : FVec F S128x1600x128 .f32 := (fun x i => Host.gather gather_S1600x128_S128x1600x1_S128x1600x128_2_0_n_n_0_2_1128 x i) arg0 v5
  let v14 : IVec S128x1600x128 1 := broadcastInDim S128x1600x128 ![0, 1] bcast_S128x1600_S128x1600x128_0_1 v12
  let cst : FVec F S_ .f32 := constant S_ .f32 0x7FC00000#32
  let v15 : FVec F S128x1600x128 .f32 := broadcastInDim S128x1600x128 ![] bcast_S_S128x1600x128 cst
  let v16 : FVec F S128x1600x128 .f32 := select v14 v13 v15
  v16

def fn_where_3 {F : FTy → Type} [FloatOps F] (arg0 : IVec S128x1600x6 1) (arg1 : FVec F S_ .f32) (arg2 : FVec F S128x1600x6 .f32) : FVec F S128x1600x6 .f32 :=
  let v0 : FVec F S128x1600x6 .f32 := broadcastInDim S128x1600x6 ![] bcast_S_S128x1600x6 arg1
  let v1 : FVec F S128x1600x6 .f32 := select arg0 v0 arg2
  v1

def fn_nan_to_num_2 {F : FTy → Type} [FloatOps F] (arg0 : FVec F S128x1600x6 .f32) : FVec F S128x1600x6 .f32 :=
  let v0 : IVec S128x1600x6 1 := cmpf .une arg0 arg0
  let cst : FVec F S_ .f32 := constant S_ .f32 0x00000000#32
  let v1 : FVec F S128x1600x6 .f32 := fn_where_3 (F := F) v0 cst arg0
  let cst_0 : FVec F S_ .f32 := constant S_ .f32 0x7F800000#32
  let v2 : FVec F S128x1600x6 .f32 := broadcastInDim S128x1600x6 ![] bcast_S_S128x1600x6 cst_0
  let v3 : IVec S128x1600x6 1 := cmpf .oeq v1 v2
  let cst_1 : FVec F S_ .f32 := constant S_ .f32 0x7F7FFFFF#32
  let v4 : FVec F S128x1600x6 .f32 := fn_where_3 (F := F) v3 cst_1 v1
  let cst_2 : FVec F S_ .f32 := constant S_ .f32 0xFF800000#32
  let v5 : FVec F S128x1600x6 .f32 := broadcastInDim S128x1600x6 ![] bcast_S_S128x1600x6 cst_2
  let v6 : IVec S128x1600x6 1 := cmpf .oeq v4 v5
  let cst_3 : FVec F S_ .f32 := constant S_ .f32 0xFF7FFFFF#32
  let v7 : FVec F S128x1600x6 .f32 := fn_where_3 (F := F) v6 cst_3 v4
  v7

def fn_part2 {F : FTy → Type} [FloatOps F] (main_v43 : FVec F S128x1600x128 .f32) (main_v45 : FVec F S128 .f32) : IVec S128x1600x128 1 :=
  let main_v46 : FVec F S1x1x128 .f32 := broadcastInDim S1x1x128 ![2] bcast_S128_S1x1x128_2 main_v45
  let main_cst_0 : FVec F S_ .f32 := constant S_ .f32 0x36800000#32
  let main_v47 : FVec F S1x1x128 .f32 := broadcastInDim S1x1x128 ![] bcast_S_S1x1x128 main_cst_0
  let main_v48 : FVec F S1x1x128 .f32 := mulf main_v47 main_v46
  let main_v49 : FVec F S128x1600x128 .f32 := broadcastInDim S128x1600x128 ![0, 1, 2] bcast_S1x1x128_S128x1600x128_0_1_2 main_v48
  let main_v50 : IVec S128x1600x128 1 := cmpf .ole main_v43 main_v49
  main_v50

def fn_part1 {F : FTy → Type} [FloatOps F] (main_arg3 : FVec F S6x6 .f32) (main_arg4 : FVec F S6x6 .f32) (main_arg5 : FVec F S37x128 .f32) (main_arg6 : FVec F S128 .f32) (main_arg7 : FVec F S128x1600x128 .f32) (main_v9 : FVec F S128x1600x1 .f32) (main_v18 : FVec F S128x1600x128 .f32) (main_v20 : FVec F S128x1600x128 .f32) (main_v22 : FVec F S128x1600x6x1 .f32) : IVec S128x1600x128 1 :=
  let main_v23 : FVec F S1x1x6x6 .f32 := broadcastInDim S1x1x6x6 ![2, 3] bcast_S6x6_S1x1x6x6_2_3 main_arg3
  let main_v24 : FVec F S128x1600x6x6 .f32 := broadcastInDim S128x1600x6x6 ![0, 1, 2, 3] bcast_S128x1600x6x1_S128x1600x6x6_0_1_2_3 main_v22
  let main_v25 : FVec F S128x1600x6x6 .f32 := broadcastInDim S128x1600x6x6 ![0, 1, 2, 3] bcast_S1x1x6x6_S128x1600x6x6_0_1_2_3 main_v23
  let main_v26 : FVec F S128x1600x6x6 .f32 := mulf main_v24 main_v25
  let main_v27 : FVec F S1x1x6x6 .f32 := broadcastInDim S1x1x6x6 ![2, 3] bcast_S6x6_S1x1x6x6_2_3 main_arg4
  let main_v28 : FVec F S128x1600x6x6 .f32 := broadcastInDim S128x1600x6x6 ![0, 1, 2, 3] bcast_S1x1x6x6_S128x1600x6x6_0_1_2_3 main_v27
  let main_v29 : FVec F S128x1600x6x6 .f32 := addf main_v26 main_v28
  let main_v30 : FVec F S128x1600x6x1 .f32 := (extractStridedSlice S128x1600x6x1 ![0, 0, 0, 0] · slices_S128x1600x6x6_S128x1600x6x1_0_0_0_0) main_v29
  let main_v31 : FVec F S128x1600x6x5 .f32 := (extractStridedSlice S128x1600x6x5 ![0, 0, 0, 1] · slices_S128x1600x6x6_S128x1600x6x5_0_0_0_1) main_v29
  let main_v32 : FVec F S128x1600x6x5 .f32 := Host.sin main_v31
  let main_v33 : FVec F S128x1600x6x6 .f32 := (fun a b => concatenate S128x1600x6x6 3 [⟨S128x1600x6x1, a⟩, ⟨S128x1600x6x5, b⟩] concatenates_S128x1600x6x1_S128x1600x6x5_S128x1600x6x6_d3) main_v30 main_v32
  let main_v34 : FVec F S128x1600x36 .f32 := shapeCast S128x1600x36 main_v33 shapeCasts_S128x1600x6x6_S128x1600x36
  let main_v35 : FVec F S128x1600x37 .f32 := (fun a b => concatenate S128x1600x37 2 [⟨S128x1600x36, a⟩, ⟨S128x1600x1, b⟩] concatenates_S128x1600x36_S128x1600x1_S128x1600x37_d2) main_v34 main_v9
  let main_v36 : FVec F S128x1600x128 .f32 := (fun l r => Host.dotGeneral dot_S128x1600x37_S37x128_S128x1600x128_2_0_01_1_n_n none l r) main_v35 main_arg5
  let main_v37 : FVec F S1x1x128 .f32 := broadcastInDim S1x1x128 ![2] bcast_S128_S1x1x128_2 main_arg6
  let main_v38 : FVec F S128x1600x128 .f32 := broadcastInDim S128x1600x128 ![0, 1, 2] bcast_S1x1x128_S128x1600x128_0_1_2 main_v37
  let main_v39 : FVec F S128x1600x128 .f32 := addf main_v36 main_v38
  let main_v40 : FVec F S128x1600x128 .f32 := addf main_v39 main_v20
  let main_v41 : FVec F S128x1600x128 .f32 := addf main_v40 main_v18
  let main_v42 : FVec F S128x1600x128 .f32 := subf main_arg7 main_v41
  let main_v43 : FVec F S128x1600x128 .f32 := Host.absf main_v42
  let main_v44 : FVec F S37x128 .f32 := Host.absf main_arg5
  let main_cst : FVec F S_ .f32 := constant S_ .f32 0x00000000#32
  let main_v45 : FVec F S128 .f32 := (fun x v => Host.reduceAdd x v reducesTo_S37x128_S128_d0 h_S_) main_v44 main_cst
  fn_part2 (F := F) main_v43 main_v45

def fn {F : FTy → Type} [FloatOps F] (main_arg0 : FVec F S128x8x1600 .f32) (main_arg1 : FVec F S2x128 .f32) (main_arg2 : FVec F S1600x128 .f32) (main_arg3 : FVec F S6x6 .f32) (main_arg4 : FVec F S6x6 .f32) (main_arg5 : FVec F S37x128 .f32) (main_arg6 : FVec F S128 .f32) (main_arg7 : FVec F S128x1600x128 .f32) : IVec S128x1600x128 1 :=
  let main_v0 : FVec F S128x1x1600 .f32 := (extractStridedSlice S128x1x1600 ![0, 0, 0] · slices_S128x8x1600_S128x1x1600_0_0_0) main_arg0
  let main_v1 : FVec F S128x1600 .f32 := shapeCast S128x1600 main_v0 shapeCasts_S128x1x1600_S128x1600
  let main_v2 : FVec F S128x1600x1 .f32 := broadcastInDim S128x1600x1 ![0, 1] bcast_S128x1600_S128x1600x1_0_1 main_v1
  let main_v3 : FVec F S128x1x1600 .f32 := (extractStridedSlice S128x1x1600 ![0, 1, 0] · slices_S128x8x1600_S128x1x1600_0_1_0) main_arg0
  let main_v4 : FVec F S128x1600 .f32 := shapeCast S128x1600 main_v3 shapeCasts_S128x1x1600_S128x1600
  let main_v5 : FVec F S128x6x1600 .f32 := (extractStridedSlice S128x6x1600 ![0, 2, 0] · slices_S128x8x1600_S128x6x1600_0_2_0) main_arg0
  let main_v6 : FVec F S128x1600x6 .f32 := (transpose S128x1600x6 [0, 2, 1] · transposes_S128x6x1600_S128x1600x6_0_2_1) main_v5
  let main_v7 : IVec S128x1600x1 1 := cmpf .une main_v2 main_v2
  let main_v8 : IVec S128x1600 1 := shapeCast S128x1600 main_v7 shapeCasts_S128x1600x1_S128x1600
  let main_v9 : FVec F S128x1600x1 .f32 := fn_nan_to_num (F := F) main_v2
  let main_c : IVec S_ 32 := constantI S_ 32 1#32
  let main_v10 : IVec S128x1600 32 := broadcastInDim S128x1600 ![] bcast_S_S128x1600 main_c
  let main_v11 : IVec S128x1600 1 := noti main_v8
  let main_v12 : IVec S128x1600 32 := (extui 32 · natLt_1_32) main_v11
  let main_v13 : IVec S128x1600 32 := muli main_v10 main_v12
  let main_v14 : IVec S128x1600x1 1 := cmpf .oeq main_v9 main_v9
  let main_v15 : IVec S128x1600 1 := shapeCast S128x1600 main_v14 shapeCasts_S128x1600x1_S128x1600
  let main_v16 : IVec S128x1600 32 := (extui 32 · natLt_1_32) main_v15
  let main_v17 : IVec S128x1600 32 := muli main_v13 main_v16
  let main_v18 : FVec F S128x1600x128 .f32 := fn_take (F := F) main_arg1 main_v17
  let main_v19 : IVec S128x1600 32 := fptosi 32 main_v4
  let main_v20 : FVec F S128x1600x128 .f32 := fn_take_1 (F := F) main_arg2 main_v19
  let main_v21 : FVec F S128x1600x6 .f32 := fn_nan_to_num_2 (F := F) main_v6
  let main_v22 : FVec F S128x1600x6x1 .f32 := broadcastInDim S128x1600x6x1 ![0, 1, 2] bcast_S128x1600x6_S128x1600x6x1_0_1_2 main_v21
  fn_part1 (F := F) main_arg3 main_arg4 main_arg5 main_arg6 main_arg7 main_v9 main_v18 main_v20 main_v22
-- ==== Pre_bounded.lean ====
abbrev S128x8x1600 : Shape := ⟨3, ![128, 8, 1600]⟩
abbrev S2x128 : Shape := ⟨2, ![2, 128]⟩
abbrev S1600x128 : Shape := ⟨2, ![1600, 128]⟩
abbrev S6x6 : Shape := ⟨2, ![6, 6]⟩
abbrev S37x128 : Shape := ⟨2, ![37, 128]⟩
abbrev S128 : Shape := ⟨1, ![128]⟩
abbrev S1600 : Shape := ⟨1, ![1600]⟩
abbrev S_ : Shape := ⟨0, ![]⟩
abbrev S128x1x1600 : Shape := ⟨3, ![128, 1, 1600]⟩
abbrev S128x1600 : Shape := ⟨2, ![128, 1600]⟩
abbrev S1x1600 : Shape := ⟨2, ![1, 1600]⟩
abbrev S128x6x1600 : Shape := ⟨3, ![128, 6, 1600]⟩

class Facts : Prop where
  bcast_S_S128x8x1600 : S_.BroadcastsInDim S128x8x1600 (![] : Fin 0 → Fin S128x8x1600.rank)
  slices_S128x8x1600_S128x1x1600_0_1_0 : S128x8x1600.Slices ![0, 1, 0] S128x1x1600
  shapeCasts_S128x1x1600_S128x1600 : S128x1x1600.ShapeCasts S128x1600
  bcast_S1600_S1x1600_1 : S1600.BroadcastsInDim S1x1600 (![1] : Fin 1 → Fin S1x1600.rank)
  bcast_S1x1600_S128x1600_0_1 : S1x1600.BroadcastsInDim S128x1600 (![0, 1] : Fin 2 → Fin S128x1600.rank)
  slices_S128x8x1600_S128x6x1600_0_2_0 : S128x8x1600.Slices ![0, 2, 0] S128x6x1600
  bcast_S_S128x6x1600 : S_.BroadcastsInDim S128x6x1600 (![] : Fin 0 → Fin S128x6x1600.rank)
  bcast_S_S6x6 : S_.BroadcastsInDim S6x6 (![] : Fin 0 → Fin S6x6.rank)
  bcast_S_S2x128 : S_.BroadcastsInDim S2x128 (![] : Fin 0 → Fin S2x128.rank)
  bcast_S_S1600x128 : S_.BroadcastsInDim S1600x128 (![] : Fin 0 → Fin S1600x128.rank)
  bcast_S_S37x128 : S_.BroadcastsInDim S37x128 (![] : Fin 0 → Fin S37x128.rank)
  bcast_S_S128 : S_.BroadcastsInDim S128 (![] : Fin 0 → Fin S128.rank)

variable [Facts]

def fn_part1 {F : FTy → Type} [FloatOps F] (main_arg1 : FVec F S2x128 .f32) (main_arg2 : FVec F S1600x128 .f32) (main_arg5 : FVec F S37x128 .f32) (main_arg6 : FVec F S128 .f32) (main_v4 : IVec S128x8x1600 1) (main_v9 : IVec S128x1600 1) (main_v13 : IVec S128x6x1600 1) (main_v16 : IVec S6x6 1) (main_v19 : IVec S6x6 1) : IVec S128x8x1600 1 × IVec S128x1600 1 × IVec S128x6x1600 1 × IVec S6x6 1 × IVec S6x6 1 × IVec S2x128 1 × IVec S1600x128 1 × IVec S37x128 1 × IVec S128 1 :=
  let main_v20 : FVec F S2x128 .f32 := Host.absf main_arg1
  let main_cst_3 : FVec F S_ .f32 := constant S_ .f32 0x7F800000#32
  let main_v21 : FVec F S2x128 .f32 := broadcastInDim S2x128 ![] bcast_S_S2x128 main_cst_3
  let main_v22 : IVec S2x128 1 := cmpf .olt main_v20 main_v21
  let main_v23 : FVec F S1600x128 .f32 := Host.absf main_arg2
  let main_cst_4 : FVec F S_ .f32 := constant S_ .f32 0x7F800000#32
  let main_v24 : FVec F S1600x128 .f32 := broadcastInDim S1600x128 ![] bcast_S_S1600x128 main_cst_4
  let main_v25 : IVec S1600x128 1 := cmpf .olt main_v23 main_v24
  let main_v26 : FVec F S37x128 .f32 := Host.absf main_arg5
  let main_cst_5 : FVec F S_ .f32 := constant S_ .f32 0x7F800000#32
  let main_v27 : FVec F S37x128 .f32 := broadcastInDim S37x128 ![] bcast_S_S37x128 main_cst_5
  let main_v28 : IVec S37x128 1 := cmpf .olt main_v26 main_v27
  let main_v29 : FVec F S128 .f32 := Host.absf main_arg6
  let main_cst_6 : FVec F S_ .f32 := constant S_ .f32 0x7F800000#32
  let main_v30 : FVec F S128 .f32 := broadcastInDim S128 ![] bcast_S_S128 main_cst_6
  let main_v31 : IVec S128 1 := cmpf .olt main_v29 main_v30
  (main_v4, main_v9, main_v13, main_v16, main_v19, main_v22, main_v25, main_v28, main_v31)

def fn {F : FTy → Type} [FloatOps F] (main_arg0 : FVec F S128x8x1600 .f32) (main_arg1 : FVec F S2x128 .f32) (main_arg2 : FVec F S1600x128 .f32) (main_arg3 : FVec F S6x6 .f32) (main_arg4 : FVec F S6x6 .f32) (main_arg5 : FVec F S37x128 .f32) (main_arg6 : FVec F S128 .f32) : IVec S128x8x1600 1 × IVec S128x1600 1 × IVec S128x6x1600 1 × IVec S6x6 1 × IVec S6x6 1 × IVec S2x128 1 × IVec S1600x128 1 × IVec S37x128 1 × IVec S128 1 :=
  let main_v0 : IVec S1600 32 := iotaInDim S1600 32 0
  let main_v1 : FVec F S1600 .f32 := sitofp .f32 main_v0
  let main_v2 : FVec F S128x8x1600 .f32 := Host.absf main_arg0
  let main_cst : FVec F S_ .f32 := constant S_ .f32 0x7F800000#32
  let main_v3 : FVec F S128x8x1600 .f32 := broadcastInDim S128x8x1600 ![] bcast_S_S128x8x1600 main_cst
  let main_v4 : IVec S128x8x1600 1 := cmpf .olt main_v2 main_v3
  let main_v5 : FVec F S128x1x1600 .f32 := (extractStridedSlice S128x1x1600 ![0, 1, 0] · slices_S128x8x1600_S128x1x1600_0_1_0) main_arg0
  let main_v6 : FVec F S128x1600 .f32 := shapeCast S128x1600 main_v5 shapeCasts_S128x1x1600_S128x1600
  let main_v7 : FVec F S1x1600 .f32 := broadcastInDim S1x1600 ![1] bcast_S1600_S1x1600_1 main_v1
  let main_v8 : FVec F S128x1600 .f32 := broadcastInDim S128x1600 ![0, 1] bcast_S1x1600_S128x1600_0_1 main_v7
  let main_v9 : IVec S128x1600 1 := cmpf .oeq main_v6 main_v8
  let main_v10 : FVec F S128x6x1600 .f32 := (extractStridedSlice S128x6x1600 ![0, 2, 0] · slices_S128x8x1600_S128x6x1600_0_2_0) main_arg0
  let main_v11 : FVec F S128x6x1600 .f32 := Host.absf main_v10
  let main_cst_0 : FVec F S_ .f32 := constant S_ .f32 0x3F800000#32
  let main_v12 : FVec F S128x6x1600 .f32 := broadcastInDim S128x6x1600 ![] bcast_S_S128x6x1600 main_cst_0
  let main_v13 : IVec S128x6x1600 1 := cmpf .ole main_v11 main_v12
  let main_v14 : FVec F S6x6 .f32 := Host.absf main_arg3
  let main_cst_1 : FVec F S_ .f32 := constant S_ .f32 0x44000000#32
  let main_v15 : FVec F S6x6 .f32 := broadcastInDim S6x6 ![] bcast_S_S6x6 main_cst_1
  let main_v16 : IVec S6x6 1 := cmpf .ole main_v14 main_v15
  let main_v17 : FVec F S6x6 .f32 := Host.absf main_arg4
  let main_cst_2 : FVec F S_ .f32 := constant S_ .f32 0x44000000#32
  let main_v18 : FVec F S6x6 .f32 := broadcastInDim S6x6 ![] bcast_S_S6x6 main_cst_2
  let main_v19 : IVec S6x6 1 := cmpf .ole main_v17 main_v18
  fn_part1 (F := F) main_arg1 main_arg2 main_arg5 main_arg6 main_v4 main_v9 main_v13 main_v16 main_v19
-- ==== Pre_inputs_in_range.lean ====
abbrev S128x8x1600 : Shape := ⟨3, ![128, 8, 1600]⟩
abbrev S2x128 : Shape := ⟨2, ![2, 128]⟩
abbrev S1600x128 : Shape := ⟨2, ![1600, 128]⟩
abbrev S6x6 : Shape := ⟨2, ![6, 6]⟩
abbrev S37x128 : Shape := ⟨2, ![37, 128]⟩
abbrev S128 : Shape := ⟨1, ![128]⟩
abbrev S1600 : Shape := ⟨1, ![1600]⟩
abbrev S_ : Shape := ⟨0, ![]⟩
abbrev S128x1x1600 : Shape := ⟨3, ![128, 1, 1600]⟩
abbrev S128x1600 : Shape := ⟨2, ![128, 1600]⟩
abbrev S1x1600 : Shape := ⟨2, ![1, 1600]⟩

class Facts : Prop where
  bcast_S_S128x8x1600 : S_.BroadcastsInDim S128x8x1600 (![] : Fin 0 → Fin S128x8x1600.rank)
  slices_S128x8x1600_S128x1x1600_0_1_0 : S128x8x1600.Slices ![0, 1, 0] S128x1x1600
  shapeCasts_S128x1x1600_S128x1600 : S128x1x1600.ShapeCasts S128x1600
  bcast_S1600_S1x1600_1 : S1600.BroadcastsInDim S1x1600 (![1] : Fin 1 → Fin S1x1600.rank)
  bcast_S1x1600_S128x1600_0_1 : S1x1600.BroadcastsInDim S128x1600 (![0, 1] : Fin 2 → Fin S128x1600.rank)

variable [Facts]

def fn {F : FTy → Type} [FloatOps F] (main_arg0 : FVec F S128x8x1600 .f32) (main_arg1 : FVec F S2x128 .f32) (main_arg2 : FVec F S1600x128 .f32) (main_arg3 : FVec F S6x6 .f32) (main_arg4 : FVec F S6x6 .f32) (main_arg5 : FVec F S37x128 .f32) (main_arg6 : FVec F S128 .f32) : IVec S128x8x1600 1 × IVec S128x1600 1 :=
  let main_v0 : IVec S1600 32 := iotaInDim S1600 32 0
  let main_v1 : FVec F S1600 .f32 := sitofp .f32 main_v0
  let main_v2 : FVec F S128x8x1600 .f32 := Host.absf main_arg0
  let main_cst : FVec F S_ .f32 := constant S_ .f32 0x7F800000#32
  let main_v3 : FVec F S128x8x1600 .f32 := broadcastInDim S128x8x1600 ![] bcast_S_S128x8x1600 main_cst
  let main_v4 : IVec S128x8x1600 1 := cmpf .olt main_v2 main_v3
  let main_v5 : FVec F S128x1x1600 .f32 := (extractStridedSlice S128x1x1600 ![0, 1, 0] · slices_S128x8x1600_S128x1x1600_0_1_0) main_arg0
  let main_v6 : FVec F S128x1600 .f32 := shapeCast S128x1600 main_v5 shapeCasts_S128x1x1600_S128x1600
  let main_v7 : FVec F S1x1600 .f32 := broadcastInDim S1x1600 ![1] bcast_S1600_S1x1600_1 main_v1
  let main_v8 : FVec F S128x1600 .f32 := broadcastInDim S128x1600 ![0, 1] bcast_S1x1600_S128x1600_0_1 main_v7
  let main_v9 : IVec S128x1600 1 := cmpf .oeq main_v6 main_v8
  (main_v4, main_v9)
-- ==== Kernel.lean ====
abbrev S128x8x1600 : Shape := ⟨3, ![128, 8, 1600]⟩
abbrev S2x128 : Shape := ⟨2, ![2, 128]⟩
abbrev S1600x128 : Shape := ⟨2, ![1600, 128]⟩
abbrev S6x6 : Shape := ⟨2, ![6, 6]⟩
abbrev S37x128 : Shape := ⟨2, ![37, 128]⟩
abbrev S128 : Shape := ⟨1, ![128]⟩
abbrev S30 : Shape := ⟨1, ![30]⟩
abbrev S6 : Shape := ⟨1, ![6]⟩
abbrev S40x6 : Shape := ⟨2, ![40, 6]⟩
abbrev S_ : Shape := ⟨0, ![]⟩
abbrev S2 : Shape := ⟨1, ![2]⟩
abbrev S6x5 : Shape := ⟨2, ![6, 5]⟩
abbrev S6x1 : Shape := ⟨2, ![6, 1]⟩
abbrev S40 : Shape := ⟨1, ![40]⟩
abbrev S40x1 : Shape := ⟨2, ![40, 1]⟩
abbrev S30x1 : Shape := ⟨2, ![30, 1]⟩
abbrev S30x128 : Shape := ⟨2, ![30, 128]⟩
abbrev S6x128 : Shape := ⟨2, ![6, 128]⟩
abbrev S1x128 : Shape := ⟨2, ![1, 128]⟩
abbrev S40x128 : Shape := ⟨2, ![40, 128]⟩
abbrev S128x1600x128 : Shape := ⟨3, ![128, 1600, 128]⟩
abbrev S16x8x1600 : Shape := ⟨3, ![16, 8, 1600]⟩
abbrev S16x1600x128 : Shape := ⟨3, ![16, 1600, 128]⟩
abbrev S1x8x1600 : Shape := ⟨3, ![1, 8, 1600]⟩
abbrev S8x1600 : Shape := ⟨2, ![8, 1600]⟩
abbrev S1x1600 : Shape := ⟨2, ![1, 1600]⟩
abbrev S6x1600 : Shape := ⟨2, ![6, 1600]⟩
abbrev S40x1600 : Shape := ⟨2, ![40, 1600]⟩
abbrev S32x1600 : Shape := ⟨2, ![32, 1600]⟩
abbrev S8x1 : Shape := ⟨2, ![8, 1]⟩
abbrev S1x1600x128 : Shape := ⟨3, ![1, 1600, 128]⟩

abbrev nBuf : Space → Nat
  | .hbm => 61
  | .vmem => 8
  | .smem => 0
  | _ => 0

abbrev bufTy : (tb : Table) → Fin (tcTables nBuf tb) → BufTy
  | .hbm, ⟨0, _⟩ => ⟨S128x8x1600, .f32⟩
  | .hbm, ⟨1, _⟩ => ⟨S2x128, .f32⟩
  | .hbm, ⟨2, _⟩ => ⟨S1600x128, .f32⟩
  | .hbm, ⟨3, _⟩ => ⟨S6x6, .f32⟩
  | .hbm, ⟨4, _⟩ => ⟨S6x6, .f32⟩
  | .hbm, ⟨5, _⟩ => ⟨S37x128, .f32⟩
  | .hbm, ⟨6, _⟩ => ⟨S128, .f32⟩
  | .hbm, ⟨7, _⟩ => ⟨S30, .i32⟩
  | .hbm, ⟨8, _⟩ => ⟨S30, .i1⟩
  | .hbm, ⟨9, _⟩ => ⟨S6, .i32⟩
  | .hbm, ⟨10, _⟩ => ⟨S6, .i1⟩
  | .hbm, ⟨11, _⟩ => ⟨S40x6, .f32⟩
  | .hbm, ⟨12, _⟩ => ⟨S_, .f32⟩
  | .hbm, ⟨13, _⟩ => ⟨S2, .f32⟩
  | .hbm, ⟨14, _⟩ => ⟨S6x5, .f32⟩
  | .hbm, ⟨15, _⟩ => ⟨S30, .f32⟩
  | .hbm, ⟨16, _⟩ => ⟨S6x1, .f32⟩
  | .hbm, ⟨17, _⟩ => ⟨S6, .f32⟩
  | .hbm, ⟨18, _⟩ => ⟨S40, .f32⟩
  | .hbm, ⟨19, _⟩ => ⟨S40x1, .f32⟩
  | .hbm, ⟨20, _⟩ => ⟨S6x5, .f32⟩
  | .hbm, ⟨21, _⟩ => ⟨S30, .f32⟩
  | .hbm, ⟨22, _⟩ => ⟨S6x1, .f32⟩
  | .hbm, ⟨23, _⟩ => ⟨S6, .f32⟩
  | .hbm, ⟨24, _⟩ => ⟨S40, .f32⟩
  | .hbm, ⟨25, _⟩ => ⟨S40x1, .f32⟩
  | .hbm, ⟨26, _⟩ => ⟨S_, .i32⟩
  | .hbm, ⟨27, _⟩ => ⟨S30, .i32⟩
  | .hbm, ⟨28, _⟩ => ⟨S30, .i32⟩
  | .hbm, ⟨29, _⟩ => ⟨S30, .i32⟩
  | .hbm, ⟨30, _⟩ => ⟨S30x1, .i32⟩
  | .hbm, ⟨31, _⟩ => ⟨S30x128, .f32⟩
  | .hbm, ⟨32, _⟩ => ⟨S_, .f32⟩
  | .hbm, ⟨33, _⟩ => ⟨S2x128, .f32⟩
  | .hbm, ⟨34, _⟩ => ⟨S_, .i32⟩
  | .hbm, ⟨35, _⟩ => ⟨S6, .i32⟩
  | .hbm, ⟨36, _⟩ => ⟨S6, .i32⟩
  | .hbm, ⟨37, _⟩ => ⟨S6, .i32⟩
  | .hbm, ⟨38, _⟩ => ⟨S6x1, .i32⟩
  | .hbm, ⟨39, _⟩ => ⟨S6x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S40x128, .f32⟩
  | .hbm, ⟨50, _⟩ => ⟨S40x128, .bf16⟩
  | .hbm, ⟨51, _⟩ => ⟨S1x128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S1600x128, .f32⟩
  | .hbm, ⟨56, _⟩ => ⟨S1600x128, .f32⟩
  | .hbm, ⟨57, _⟩ => ⟨S40x6, .f32⟩
  | .hbm, ⟨58, _⟩ => ⟨S40x6, .f32⟩
  | .hbm, ⟨59, _⟩ => ⟨S40x6, .bf16⟩
  | .hbm, ⟨60, _⟩ => ⟨S128x1600x128, .f32⟩
  | .local _ .vmem, ⟨0, _⟩ => ⟨S16x8x1600, .f32⟩
  | .local _ .vmem, ⟨1, _⟩ => ⟨S16x8x1600, .f32⟩
  | .local _ .vmem, ⟨2, _⟩ => ⟨S40x6, .bf16⟩
  | .local _ .vmem, ⟨3, _⟩ => ⟨S40x1, .f32⟩
  | .local _ .vmem, ⟨4, _⟩ => ⟨S40x128, .bf16⟩
  | .local _ .vmem, ⟨5, _⟩ => ⟨S1600x128, .f32⟩
  | .local _ .vmem, ⟨6, _⟩ => ⟨S16x1600x128, .f32⟩
  | .local _ .vmem, ⟨7, _⟩ => ⟨S16x1600x128, .f32⟩
  | _, _ => ⟨S128x8x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_cst : Ref sig .tc := ⟨.hbm, 11, rfl⟩
abbrev main_cst_3 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x8x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x6 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1600x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1600x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S128x8x1600 : Shape := ⟨3, ![128, 8, 1600]⟩
abbrev S2x128 : Shape := ⟨2, ![2, 128]⟩
abbrev S1600x128 : Shape := ⟨2, ![1600, 128]⟩
abbrev S6x6 : Shape := ⟨2, ![6, 6]⟩
abbrev S37x128 : Shape := ⟨2, ![37, 128]⟩
abbrev S128 : Shape := ⟨1, ![128]⟩
abbrev S128x1x1600 : Shape := ⟨3, ![128, 1, 1600]⟩
abbrev S128x1600 : Shape := ⟨2, ![128, 1600]⟩
abbrev S128x1600x1 : Shape := ⟨3, ![128, 1600, 1]⟩
abbrev S128x6x1600 : Shape := ⟨3, ![128, 6, 1600]⟩
abbrev S128x1600x6 : Shape := ⟨3, ![128, 1600, 6]⟩
abbrev S_ : Shape := ⟨0, ![]⟩
abbrev S1 : Shape := ⟨1, ![1]⟩
abbrev S1x1x1 : Shape := ⟨3, ![1, 1, 1]⟩
abbrev S128x1600x128 : Shape := ⟨3, ![128, 1600, 128]⟩
abbrev S128x1600x6x1 : Shape := ⟨4, ![128, 1600, 6, 1]⟩
abbrev S1x1x6x6 : Shape := ⟨4, ![1, 1, 6, 6]⟩
abbrev S128x1600x6x6 : Shape := ⟨4, ![128, 1600, 6, 6]⟩
abbrev S128x1600x6x5 : Shape := ⟨4, ![128, 1600, 6, 5]⟩
abbrev S128x1600x36 : Shape := ⟨3, ![128, 1600, 36]⟩
abbrev S128x1600x37 : Shape := ⟨3, ![128, 1600, 37]⟩
abbrev S1x1x128 : Shape := ⟨3, ![1, 1, 128]⟩

abbrev nBuf : Space → Nat
  | .hbm => 124
  | .vmem => 0
  | .smem => 0
  | _ => 0

abbrev bufTy : (tb : Table) → Fin (tcTables nBuf tb) → BufTy
  | .hbm, ⟨0, _⟩ => ⟨S128x8x1600, .f32⟩
  | .hbm, ⟨1, _⟩ => ⟨S2x128, .f32⟩
  | .hbm, ⟨2, _⟩ => ⟨S1600x128, .f32⟩
  | .hbm, ⟨3, _⟩ => ⟨S6x6, .f32⟩
  | .hbm, ⟨4, _⟩ => ⟨S6x6, .f32⟩
  | .hbm, ⟨5, _⟩ => ⟨S37x128, .f32⟩
  | .hbm, ⟨6, _⟩ => ⟨S128, .f32⟩
  | .hbm, ⟨7, _⟩ => ⟨S128x1x1600, .f32⟩
  | .hbm, ⟨8, _⟩ => ⟨S128x1600, .f32⟩
  | .hbm, ⟨9, _⟩ => ⟨S128x1600x1, .f32⟩
  | .hbm, ⟨10, _⟩ => ⟨S128x1x1600, .f32⟩
  | .hbm, ⟨11, _⟩ => ⟨S128x1600, .f32⟩
  | .hbm, ⟨12, _⟩ => ⟨S128x6x1600, .f32⟩
  | .hbm, ⟨13, _⟩ => ⟨S128x1600x6, .f32⟩
  | .hbm, ⟨14, _⟩ => ⟨S128x1600x1, .i1⟩
  | .hbm, ⟨15, _⟩ => ⟨S128x1600, .i1⟩
  | .hbm, ⟨16, _⟩ => ⟨S128x1600x1, .i1⟩
  | .hbm, ⟨17, _⟩ => ⟨S_, .f32⟩
  | .hbm, ⟨18, _⟩ => ⟨S128x1600x1, .f32⟩
  | .hbm, ⟨19, _⟩ => ⟨S128x1600x1, .f32⟩
  | .hbm, ⟨20, _⟩ => ⟨S_, .f32⟩
  | .hbm, ⟨21, _⟩ => ⟨S128x1600x1, .f32⟩
  | .hbm, ⟨22, _⟩ => ⟨S128x1600x1, .i1⟩
  | .hbm, ⟨23, _⟩ => ⟨S_, .f32⟩
  | .hbm, ⟨24, _⟩ => ⟨S128x1600x1, .f32⟩
  | .hbm, ⟨25, _⟩ => ⟨S128x1600x1, .f32⟩
  | .hbm, ⟨26, _⟩ => ⟨S_, .f32⟩
  | .hbm, ⟨27, _⟩ => ⟨S128x1600x1, .f32⟩
  | .hbm, ⟨28, _⟩ => ⟨S128x1600x1, .i1⟩
  | .hbm, ⟨29, _⟩ => ⟨S_, .f32⟩
  | .hbm, ⟨30, _⟩ => ⟨S128x1600x1, .f32⟩
  | .hbm, ⟨31, _⟩ => ⟨S128x1600x1, .f32⟩
  | .hbm, ⟨32, _⟩ => ⟨S_, .i32⟩
  | .hbm, ⟨33, _⟩ => ⟨S128x1600, .i32⟩
  | .hbm, ⟨34, _⟩ => ⟨S128x1600, .i1⟩
  | .hbm, ⟨35, _⟩ => ⟨S128x1600, .i32⟩
  | .hbm, ⟨36, _⟩ => ⟨S128x1600, .i32⟩
  | .hbm, ⟨37, _⟩ => ⟨S128x1600x1, .i1⟩
  | .hbm, ⟨38, _⟩ => ⟨S128x1600, .i1⟩
  | .hbm, ⟨39, _⟩ => ⟨S128x1600, .i32⟩
  | .hbm, ⟨40, _⟩ => ⟨S128x1600, .i32⟩
  | .hbm, ⟨41, _⟩ => ⟨S_, .i32⟩
  | .hbm, ⟨42, _⟩ => ⟨S128x1600, .i32⟩
  | .hbm, ⟨43, _⟩ => ⟨S128x1600, .i1⟩
  | .hbm, ⟨44, _⟩ => ⟨S_, .i32⟩
  | .hbm, ⟨45, _⟩ => ⟨S128x1600, .i32⟩
  | .hbm, ⟨46, _⟩ => ⟨S128x1600, .i32⟩
  | .hbm, ⟨47, _⟩ => ⟨S128x1600, .i32⟩
  | .hbm, ⟨48, _⟩ => ⟨S128x1600x1, .i32⟩
  | .hbm, ⟨49, _⟩ => ⟨S1, .i32⟩
  | .hbm, ⟨50, _⟩ => ⟨S_, .i32⟩
  | .hbm, ⟨51, _⟩ => ⟨S128x1600x1, .i32⟩
  | .hbm, ⟨52, _⟩ => ⟨S128x1600x1, .i1⟩
  | .hbm, ⟨53, _⟩ => ⟨S1x1x1, .i32⟩
  | .hbm, ⟨54, _⟩ => ⟨S128x1600x1, .i32⟩
  | .hbm, ⟨55, _⟩ => ⟨S128x1600x1, .i1⟩
  | .hbm, ⟨56, _⟩ => ⟨S128x1600x1, .i1⟩
  | .hbm, ⟨57, _⟩ => ⟨S_, .i1⟩
  | .hbm, ⟨58, _⟩ => ⟨S128x1600, .i1⟩
  | .hbm, ⟨59, _⟩ => ⟨S128x1600x128, .f32⟩
  | .hbm, ⟨60, _⟩ => ⟨S128x1600x128, .i1⟩
  | .hbm, ⟨61, _⟩ => ⟨S_, .f32⟩
  | .hbm, ⟨62, _⟩ => ⟨S128x1600x128, .f32⟩
  | .hbm, ⟨63, _⟩ => ⟨S128x1600x128, .f32⟩
  | .hbm, ⟨64, _⟩ => ⟨S128x1600, .i32⟩
  | .hbm, ⟨65, _⟩ => ⟨S_, .i32⟩
  | .hbm, ⟨66, _⟩ => ⟨S128x1600, .i32⟩
  | .hbm, ⟨67, _⟩ => ⟨S128x1600, .i1⟩
  | .hbm, ⟨68, _⟩ => ⟨S_, .i32⟩
  | .hbm, ⟨69, _⟩ => ⟨S128x1600, .i32⟩
  | .hbm, ⟨70, _⟩ => ⟨S128x1600, .i32⟩
  | .hbm, ⟨71, _⟩ => ⟨S128x1600, .i32⟩
  | .hbm, ⟨72, _⟩ => ⟨S128x1600x1, .i32⟩
  | .hbm, ⟨73, _⟩ => ⟨S1, .i32⟩
  | .hbm, ⟨74, _⟩ => ⟨S_, .i32⟩
  | .hbm, ⟨75, _⟩ => ⟨S128x1600x1, .i32⟩
  | .hbm, ⟨76, _⟩ => ⟨S128x1600x1, .i1⟩
  | .hbm, ⟨77, _⟩ => ⟨S1x1x1, .i32⟩
  | .hbm, ⟨78, _⟩ => ⟨S128x1600x1, .i32⟩
  | .hbm, ⟨79, _⟩ => ⟨S128x1600x1, .i1⟩
  | .hbm, ⟨80, _⟩ => ⟨S128x1600x1, .i1⟩
  | .hbm, ⟨81, _⟩ => ⟨S_, .i1⟩
  | .hbm, ⟨82, _⟩ => ⟨S128x1600, .i1⟩
  | .hbm, ⟨83, _⟩ => ⟨S128x1600x128, .f32⟩
  | .hbm, ⟨84, _⟩ => ⟨S128x1600x128, .i1⟩
  | .hbm, ⟨85, _⟩ => ⟨S_, .f32⟩
  | .hbm, ⟨86, _⟩ => ⟨S128x1600x128, .f32⟩
  | .hbm, ⟨87, _⟩ => ⟨S128x1600x128, .f32⟩
  | .hbm, ⟨88, _⟩ => ⟨S128x1600x6, .i1⟩
  | .hbm, ⟨89, _⟩ => ⟨S_, .f32⟩
  | .hbm, ⟨90, _⟩ => ⟨S128x1600x6, .f32⟩
  | .hbm, ⟨91, _⟩ => ⟨S128x1600x6, .f32⟩
  | .hbm, ⟨92, _⟩ => ⟨S_, .f32⟩
  | .hbm, ⟨93, _⟩ => ⟨S128x1600x6, .f32⟩
  | .hbm, ⟨94, _⟩ => ⟨S128x1600x6, .i1⟩
  | .hbm, ⟨95, _⟩ => ⟨S_, .f32⟩
  | .hbm, ⟨96, _⟩ => ⟨S128x1600x6, .f32⟩
  | .hbm, ⟨97, _⟩ => ⟨S128x1600x6, .f32⟩
  | .hbm, ⟨98, _⟩ => ⟨S_, .f32⟩
  | .hbm, ⟨99, _⟩ => ⟨S128x1600x6, .f32⟩
  | .hbm, ⟨100, _⟩ => ⟨S128x1600x6, .i1⟩
  | .hbm, ⟨101, _⟩ => ⟨S_, .f32⟩
  | .hbm, ⟨102, _⟩ => ⟨S128x1600x6, .f32⟩
  | .hbm, ⟨103, _⟩ => ⟨S128x1600x6, .f32⟩
  | .hbm, ⟨104, _⟩ => ⟨S128x1600x6x1, .f32⟩
  | .hbm, ⟨105, _⟩ => ⟨S1x1x6x6, .f32⟩
  | .hbm, ⟨106, _⟩ => ⟨S128x1600x6x6, .f32⟩
  | .hbm, ⟨107, _⟩ => ⟨S128x1600x6x6, .f32⟩
  | .hbm, ⟨108, _⟩ => ⟨S128x1600x6x6, .f32⟩
  | .hbm, ⟨109, _⟩ => ⟨S1x1x6x6, .f32⟩
  | .hbm, ⟨110, _⟩ => ⟨S128x1600x6x6, .f32⟩
  | .hbm, ⟨111, _⟩ => ⟨S128x1600x6x6, .f32⟩
  | .hbm, ⟨112, _⟩ => ⟨S128x1600x6x1, .f32⟩
  | .hbm, ⟨113, _⟩ => ⟨S128x1600x6x5, .f32⟩
  | .hbm, ⟨114, _⟩ => ⟨S128x1600x6x5, .f32⟩
  | .hbm, ⟨115, _⟩ => ⟨S128x1600x6x6, .f32⟩
  | .hbm, ⟨116, _⟩ => ⟨S128x1600x36, .f32⟩
  | .hbm, ⟨117, _⟩ => ⟨S128x1600x37, .f32⟩
  | .hbm, ⟨118, _⟩ => ⟨S128x1600x128, .f32⟩
  | .hbm, ⟨119, _⟩ => ⟨S1x1x128, .f32⟩
  | .hbm, ⟨120, _⟩ => ⟨S128x1600x128, .f32⟩
  | .hbm, ⟨121, _⟩ => ⟨S128x1600x128, .f32⟩
  | .hbm, ⟨122, _⟩ => ⟨S128x1600x128, .f32⟩
  | .hbm, ⟨123, _⟩ => ⟨S128x1600x128, .f32⟩
  | _, _ => ⟨S128x8x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_cst : Ref sig .tc := ⟨.hbm, 17, rfl⟩
abbrev main_call0_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_cst_1 : Ref sig .tc := ⟨.hbm, 23, rfl⟩
abbrev main_call0_call1_v0 : Ref sig .tc := ⟨.hbm, 24, rfl⟩
abbrev main_call0_v4 : Ref sig .tc := ⟨.hbm, 25, rfl⟩
abbrev main_call0_cst_2 : Ref sig .tc := ⟨.hbm, 26, rfl⟩
abbrev main_call0_v5 : Ref sig .tc := ⟨.hbm, 27, rfl⟩
abbrev main_call0_v6 : Ref sig .tc := ⟨.hbm, 28, rfl⟩
abbrev main_call0_cst_3 : Ref sig .tc := ⟨.hbm, 29, rfl⟩
abbrev main_call0_call2_v0 : Ref sig .tc := ⟨.hbm, 30, rfl⟩
abbrev main_v9 : Ref sig .tc := ⟨.hbm, 31, rfl⟩
abbrev main_c : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v18 : Ref sig .tc := ⟨.hbm, 63, rfl⟩
abbrev main_v19 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v20 : Ref sig .tc := ⟨.hbm, 87, rfl⟩
abbrev main_call3_v0 : Ref sig .tc := ⟨.hbm, 88, rfl⟩
abbrev main_call3_cst : Ref sig .tc := ⟨.hbm, 89, rfl⟩
abbrev main_call3_call0_v0 : Ref sig .tc := ⟨.hbm, 90, rfl⟩
abbrev main_call3_v1 : Ref sig .tc := ⟨.hbm, 91, rfl⟩
abbrev main_call3_cst_0 : Ref sig .tc := ⟨.hbm, 92, rfl⟩
abbrev main_call3_v2 : Ref sig .tc := ⟨.hbm, 93, rfl⟩
abbrev main_call3_v3 : Ref sig .tc := ⟨.hbm, 94, rfl⟩
abbrev main_call3_cst_1 : Ref sig .tc := ⟨.hbm, 95, rfl⟩
abbrev main_call3_call1_v0 : Ref sig .tc := ⟨.hbm, 96, rfl⟩
abbrev main_call3_v4 : Ref sig .tc := ⟨.hbm, 97, rfl⟩
abbrev main_call3_cst_2 : Ref sig .tc := ⟨.hbm, 98, rfl⟩
abbrev main_call3_v5 : Ref sig .tc := ⟨.hbm, 99, rfl⟩
abbrev main_call3_v6 : Ref sig .tc := ⟨.hbm, 100, rfl⟩
abbrev main_call3_cst_3 : Ref sig .tc := ⟨.hbm, 101, rfl⟩
abbrev main_call3_call2_v0 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩

abbrev nD : Nat := 1
abbrev τ : Topo := Topo.v7x

variable {F : FTy → Type} [FloatOps F]
-- ==== Plain.lean ====
abbrev S128x8x1600 : Shape := ⟨3, ![128, 8, 1600]⟩
abbrev S2x128 : Shape := ⟨2, ![2, 128]⟩
abbrev S1600x128 : Shape := ⟨2, ![1600, 128]⟩
abbrev S6x6 : Shape := ⟨2, ![6, 6]⟩
abbrev S37x128 : Shape := ⟨2, ![37, 128]⟩
abbrev S128 : Shape := ⟨1, ![128]⟩
abbrev S30 : Shape := ⟨1, ![30]⟩
abbrev S6 : Shape := ⟨1, ![6]⟩
abbrev S40x6 : Shape := ⟨2, ![40, 6]⟩
abbrev S_ : Shape := ⟨0, ![]⟩
abbrev S2 : Shape := ⟨1, ![2]⟩
abbrev S6x5 : Shape := ⟨2, ![6, 5]⟩
abbrev S6x1 : Shape := ⟨2, ![6, 1]⟩
abbrev S40 : Shape := ⟨1, ![40]⟩
abbrev S40x1 : Shape := ⟨2, ![40, 1]⟩
abbrev S30x1 : Shape := ⟨2, ![30, 1]⟩
abbrev S30x128 : Shape := ⟨2, ![30, 128]⟩
abbrev S6x128 : Shape := ⟨2, ![6, 128]⟩
abbrev S1x128 : Shape := ⟨2, ![1, 128]⟩
abbrev S40x128 : Shape := ⟨2, ![40, 128]⟩
abbrev S128x1600x128 : Shape := ⟨3, ![128, 1600, 128]⟩
abbrev S1x8x1600 : Shape := ⟨3, ![1, 8, 1600]⟩
abbrev S1x1600x128 : Shape := ⟨3, ![1, 1600, 128]⟩
abbrev S8x1600 : Shape := ⟨2, ![8, 1600]⟩
abbrev S1x1600 : Shape := ⟨2, ![1, 1600]⟩
abbrev S6x1600 : Shape := ⟨2, ![6, 1600]⟩
abbrev S40x1600 : Shape := ⟨2, ![40, 1600]⟩
abbrev S32x1600 : Shape := ⟨2, ![32, 1600]⟩
abbrev S8x1 : Shape := ⟨2, ![8, 1]⟩

abbrev nBuf : Space → Nat
  | .hbm => 55
  | .vmem => 10
  | .smem => 0
  | _ => 0

abbrev bufTy : (tb : Table) → Fin (tcTables nBuf tb) → BufTy
  | .hbm, ⟨0, _⟩ => ⟨S128x8x1600, .f32⟩
  | .hbm, ⟨1, _⟩ => ⟨S2x128, .f32⟩
  | .hbm, ⟨2, _⟩ => ⟨S1600x128, .f32⟩
  | .hbm, ⟨3, _⟩ => ⟨S6x6, .f32⟩
  | .hbm, ⟨4, _⟩ => ⟨S6x6, .f32⟩
  | .hbm, ⟨5, _⟩ => ⟨S37x128, .f32⟩
  | .hbm, ⟨6, _⟩ => ⟨S128, .f32⟩
  | .hbm, ⟨7, _⟩ => ⟨S30, .i32⟩
  | .hbm, ⟨8, _⟩ => ⟨S30, .i1⟩
  | .hbm, ⟨9, _⟩ => ⟨S6, .i32⟩
  | .hbm, ⟨10, _⟩ => ⟨S6, .i1⟩
  | .hbm, ⟨11, _⟩ => ⟨S40x6, .f32⟩
  | .hbm, ⟨12, _⟩ => ⟨S_, .f32⟩
  | .hbm, ⟨13, _⟩ => ⟨S2, .f32⟩
  | .hbm, ⟨14, _⟩ => ⟨S6x5, .f32⟩
  | .hbm, ⟨15, _⟩ => ⟨S30, .f32⟩
  | .hbm, ⟨16, _⟩ => ⟨S6x1, .f32⟩
  | .hbm, ⟨17, _⟩ => ⟨S6, .f32⟩
  | .hbm, ⟨18, _⟩ => ⟨S40, .f32⟩
  | .hbm, ⟨19, _⟩ => ⟨S40x1, .f32⟩
  | .hbm, ⟨20, _⟩ => ⟨S6x5, .f32⟩
  | .hbm, ⟨21, _⟩ => ⟨S30, .f32⟩
  | .hbm, ⟨22, _⟩ => ⟨S6x1, .f32⟩
  | .hbm, ⟨23, _⟩ => ⟨S6, .f32⟩
  | .hbm, ⟨24, _⟩ => ⟨S40, .f32⟩
  | .hbm, ⟨25, _⟩ => ⟨S40x1, .f32⟩
  | .hbm, ⟨26, _⟩ => ⟨S_, .i32⟩
  | .hbm, ⟨27, _⟩ => ⟨S30, .i32⟩
  | .hbm, ⟨28, _⟩ => ⟨S30, .i32⟩
  | .hbm, ⟨29, _⟩ => ⟨S30, .i32⟩
  | .hbm, ⟨30, _⟩ => ⟨S30x1, .i32⟩
  | .hbm, ⟨31, _⟩ => ⟨S30x128, .f32⟩
  | .hbm, ⟨32, _⟩ => ⟨S_, .f32⟩
  | .hbm, ⟨33, _⟩ => ⟨S2x128, .f32⟩
  | .hbm, ⟨34, _⟩ => ⟨S_, .i32⟩
  | .hbm, ⟨35, _⟩ => ⟨S6, .i32⟩
  | .hbm, ⟨36, _⟩ => ⟨S6, .i32⟩
  | .hbm, ⟨37, _⟩ => ⟨S6, .i32⟩
  | .hbm, ⟨38, _⟩ => ⟨S6x1, .i32⟩
  | .hbm, ⟨39, _⟩ => ⟨S6x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S40x128, .f32⟩
  | .hbm, ⟨50, _⟩ => ⟨S1x128, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S128x1600x128, .f32⟩
  | .local _ .vmem, ⟨0, _⟩ => ⟨S1x8x1600, .f32⟩
  | .local _ .vmem, ⟨1, _⟩ => ⟨S1x8x1600, .f32⟩
  | .local _ .vmem, ⟨2, _⟩ => ⟨S40x6, .f32⟩
  | .local _ .vmem, ⟨3, _⟩ => ⟨S40x1, .f32⟩
  | .local _ .vmem, ⟨4, _⟩ => ⟨S40x1, .f32⟩
  | .local _ .vmem, ⟨5, _⟩ => ⟨S40x128, .f32⟩
  | .local _ .vmem, ⟨6, _⟩ => ⟨S1x128, .f32⟩
  | .local _ .vmem, ⟨7, _⟩ => ⟨S1600x128, .f32⟩
  | .local _ .vmem, ⟨8, _⟩ => ⟨S1x1600x128, .f32⟩
  | .local _ .vmem, ⟨9, _⟩ => ⟨S1x1600x128, .f32⟩
  | _, _ => ⟨S128x8x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_cst : Ref sig .tc := ⟨.hbm, 11, rfl⟩
abbrev main_cst_3 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1600x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1600x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Flip.lean ====
abbrev S128x8x1600 : Shape := ⟨3, ![128, 8, 1600]⟩
abbrev S2x128 : Shape := ⟨2, ![2, 128]⟩
abbrev S1600x128 : Shape := ⟨2, ![1600, 128]⟩
abbrev S6x6 : Shape := ⟨2, ![6, 6]⟩
abbrev S37x128 : Shape := ⟨2, ![37, 128]⟩
abbrev S128 : Shape := ⟨1, ![128]⟩
abbrev S30 : Shape := ⟨1, ![30]⟩
abbrev S6 : Shape := ⟨1, ![6]⟩
abbrev S40x6 : Shape := ⟨2, ![40, 6]⟩
abbrev S_ : Shape := ⟨0, ![]⟩
abbrev S2 : Shape := ⟨1, ![2]⟩
abbrev S6x5 : Shape := ⟨2, ![6, 5]⟩
abbrev S6x1 : Shape := ⟨2, ![6, 1]⟩
abbrev S40 : Shape := ⟨1, ![40]⟩
abbrev S40x1 : Shape := ⟨2, ![40, 1]⟩
abbrev S30x1 : Shape := ⟨2, ![30, 1]⟩
abbrev S30x128 : Shape := ⟨2, ![30, 128]⟩
abbrev S6x128 : Shape := ⟨2, ![6, 128]⟩
abbrev S1x128 : Shape := ⟨2, ![1, 128]⟩
abbrev S40x128 : Shape := ⟨2, ![40, 128]⟩
abbrev S128x1600x128 : Shape := ⟨3, ![128, 1600, 128]⟩
abbrev S16x8x1600 : Shape := ⟨3, ![16, 8, 1600]⟩
abbrev S16x1600x128 : Shape := ⟨3, ![16, 1600, 128]⟩
abbrev S1x8x1600 : Shape := ⟨3, ![1, 8, 1600]⟩
abbrev S8x1600 : Shape := ⟨2, ![8, 1600]⟩
abbrev S1x1600 : Shape := ⟨2, ![1, 1600]⟩
abbrev S6x1600 : Shape := ⟨2, ![6, 1600]⟩
abbrev S40x1600 : Shape := ⟨2, ![40, 1600]⟩
abbrev S32x1600 : Shape := ⟨2, ![32, 1600]⟩
abbrev S8x1 : Shape := ⟨2, ![8, 1]⟩
abbrev S1x1600x128 : Shape := ⟨3, ![1, 1600, 128]⟩

abbrev nBuf : Space → Nat
  | .hbm => 61
  | .vmem => 8
  | .smem => 0
  | _ => 0

abbrev bufTy : (tb : Table) → Fin (tcTables nBuf tb) → BufTy
  | .hbm, ⟨0, _⟩ => ⟨S128x8x1600, .f32⟩
  | .hbm, ⟨1, _⟩ => ⟨S2x128, .f32⟩
  | .hbm, ⟨2, _⟩ => ⟨S1600x128, .f32⟩
  | .hbm, ⟨3, _⟩ => ⟨S6x6, .f32⟩
  | .hbm, ⟨4, _⟩ => ⟨S6x6, .f32⟩
  | .hbm, ⟨5, _⟩ => ⟨S37x128, .f32⟩
  | .hbm, ⟨6, _⟩ => ⟨S128, .f32⟩
  | .hbm, ⟨7, _⟩ => ⟨S30, .i32⟩
  | .hbm, ⟨8, _⟩ => ⟨S30, .i1⟩
  | .hbm, ⟨9, _⟩ => ⟨S6, .i32⟩
  | .hbm, ⟨10, _⟩ => ⟨S6, .i1⟩
  | .hbm, ⟨11, _⟩ => ⟨S40x6, .f32⟩
  | .hbm, ⟨12, _⟩ => ⟨S_, .f32⟩
  | .hbm, ⟨13, _⟩ => ⟨S2, .f32⟩
  | .hbm, ⟨14, _⟩ => ⟨S6x5, .f32⟩
  | .hbm, ⟨15, _⟩ => ⟨S30, .f32⟩
  | .hbm, ⟨16, _⟩ => ⟨S6x1, .f32⟩
  | .hbm, ⟨17, _⟩ => ⟨S6, .f32⟩
  | .hbm, ⟨18, _⟩ => ⟨S40, .f32⟩
  | .hbm, ⟨19, _⟩ => ⟨S40x1, .f32⟩
  | .hbm, ⟨20, _⟩ => ⟨S6x5, .f32⟩
  | .hbm, ⟨21, _⟩ => ⟨S30, .f32⟩
  | .hbm, ⟨22, _⟩ => ⟨S6x1, .f32⟩
  | .hbm, ⟨23, _⟩ => ⟨S6, .f32⟩
  | .hbm, ⟨24, _⟩ => ⟨S40, .f32⟩
  | .hbm, ⟨25, _⟩ => ⟨S40x1, .f32⟩
  | .hbm, ⟨26, _⟩ => ⟨S_, .i32⟩
  | .hbm, ⟨27, _⟩ => ⟨S30, .i32⟩
  | .hbm, ⟨28, _⟩ => ⟨S30, .i32⟩
  | .hbm, ⟨29, _⟩ => ⟨S30, .i32⟩
  | .hbm, ⟨30, _⟩ => ⟨S30x1, .i32⟩
  | .hbm, ⟨31, _⟩ => ⟨S30x128, .f32⟩
  | .hbm, ⟨32, _⟩ => ⟨S_, .f32⟩
  | .hbm, ⟨33, _⟩ => ⟨S2x128, .f32⟩
  | .hbm, ⟨34, _⟩ => ⟨S_, .i32⟩
  | .hbm, ⟨35, _⟩ => ⟨S6, .i32⟩
  | .hbm, ⟨36, _⟩ => ⟨S6, .i32⟩
  | .hbm, ⟨37, _⟩ => ⟨S6, .i32⟩
  | .hbm, ⟨38, _⟩ => ⟨S6x1, .i32⟩
  | .hbm, ⟨39, _⟩ => ⟨S6x128, .f32⟩
  | .hbm, ⟨40, _⟩ => ⟨S1x128, .f32⟩
  | .hbm, ⟨41, _⟩ => ⟨S128, .f32⟩
  | .hbm, ⟨42, _⟩ => ⟨S1x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S40x128, .f32⟩
  | .hbm, ⟨50, _⟩ => ⟨S40x128, .bf16⟩
  | .hbm, ⟨51, _⟩ => ⟨S1x128, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S1600x128, .f32⟩
  | .hbm, ⟨56, _⟩ => ⟨S1600x128, .f32⟩
  | .hbm, ⟨57, _⟩ => ⟨S40x6, .f32⟩
  | .hbm, ⟨58, _⟩ => ⟨S40x6, .f32⟩
  | .hbm, ⟨59, _⟩ => ⟨S40x6, .bf16⟩
  | .hbm, ⟨60, _⟩ => ⟨S128x1600x128, .f32⟩
  | .local _ .vmem, ⟨0, _⟩ => ⟨S16x8x1600, .f32⟩
  | .local _ .vmem, ⟨1, _⟩ => ⟨S16x8x1600, .f32⟩
  | .local _ .vmem, ⟨2, _⟩ => ⟨S40x6, .bf16⟩
  | .local _ .vmem, ⟨3, _⟩ => ⟨S40x1, .f32⟩
  | .local _ .vmem, ⟨4, _⟩ => ⟨S40x128, .bf16⟩
  | .local _ .vmem, ⟨5, _⟩ => ⟨S1600x128, .f32⟩
  | .local _ .vmem, ⟨6, _⟩ => ⟨S16x1600x128, .f32⟩
  | .local _ .vmem, ⟨7, _⟩ => ⟨S16x1600x128, .f32⟩
  | _, _ => ⟨S128x8x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_cst : Ref sig .tc := ⟨.hbm, 11, rfl⟩
abbrev main_cst_3 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_c_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x8x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x6 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1600x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x1600x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Proof.Spec.lean ====
/- What one element of the embedding is, written with sums over the extended reals. -/
module

public import Idealize.ShloMosaic.Lib.Pointwise
public import Idealize.ShloMosaic.PureOps.Ideal.Laws

@[expose] public section

noncomputable section

namespace Cert.Spec

open Idealize.ShloMosaic

/-- An array of extended reals of two axes. -/
abbrev Mat (a b : Nat) : Type := (⟨2, ![a, b]⟩ : Shape).Idx → EReal

/-- The argument of the feature `k` of the input `f`: the input times its frequency, plus its phase. -/
def angle (x : Fin 6 → EReal) (w b : Mat 6 6) (f k : Fin 6) : EReal := x f * w (ix2 f k) + b (ix2 f k)

/-- The part of the sum over the features with a sine: five of every input. -/
def periodic (x : Fin 6 → EReal) (w b : Mat 6 6) (W : Mat 37 128) (d : Fin 128) : EReal :=
  ∑ f : Fin 6, ∑ k : Fin 5, Ideal.sin (angle x w b f k.succ) * W (ix2 ⟨6 * f.val + (k.val + 1), by omega⟩ d)

/-- The part of the sum over the features without a sine: one of every input. -/
def linear (x : Fin 6 → EReal) (w b : Mat 6 6) (W : Mat 37 128) (d : Fin 128) : EReal :=
  ∑ f : Fin 6, angle x w b f 0 * W (ix2 ⟨6 * f.val, by omega⟩ d)

/-- One element of the embedding of an item: `x` holds its six inputs at a position and `y` its value there, `p` is the
    position's row, `c` the bias and `g` the flag's row, each at the column `d`. -/
def element (x : Fin 6 → EReal) (y : EReal) (w b : Mat 6 6) (W : Mat 37 128) (d : Fin 128) (p c g : EReal) : EReal :=
  periodic x w b W d + (linear x w b W d + y * W (ix2 36 d)) + (p + (c + g))

/-- The embedding of the item `n` at the position `l`: its rows hold the value, the position and the six inputs. -/
def embedding (X : (⟨3, ![128, 8, 1600]⟩ : Shape).Idx → EReal) (G : Mat 2 128) (P : Mat 1600 128) (w b : Mat 6 6) (W : Mat 37 128)
    (c : (⟨1, ![128]⟩ : Shape).Idx → EReal) (n : Fin 128) (l : Fin 1600) (d : Fin 128) : EReal :=
  element (fun f => X (ix3 n ⟨2 + f.val, by omega⟩ l)) (X (ix3 n 0 l)) w b W d (P (ix2 l d)) (c (ix1 d)) (G (ix2 1 d))

/-- One element of the embedding with another function in the sine's place. -/
def elementOf (sine : EReal → EReal) (x : Fin 6 → EReal) (y : EReal) (w b : Mat 6 6) (W : Mat 37 128) (d : Fin 128) (p c g : EReal) : EReal :=
  (∑ f : Fin 6, ∑ k : Fin 5, sine (angle x w b f k.succ) * W (ix2 ⟨6 * f.val + (k.val + 1), by omega⟩ d))
    + (linear x w b W d + y * W (ix2 36 d)) + (p + (c + g))

/-- The embedding with another function in the sine's place. -/
def embeddingOf (sine : EReal → EReal) (X : (⟨3, ![128, 8, 1600]⟩ : Shape).Idx → EReal) (G : Mat 2 128) (P : Mat 1600 128) (w b : Mat 6 6)
    (W : Mat 37 128) (c : (⟨1, ![128]⟩ : Shape).Idx → EReal) (n : Fin 128) (l : Fin 1600) (d : Fin 128) : EReal :=
  elementOf sine (fun f => X (ix3 n ⟨2 + f.val, by omega⟩ l)) (X (ix3 n 0 l)) w b W d (P (ix2 l d)) (c (ix1 d)) (G (ix2 1 d))

end Cert.Spec

end
-- ==== Proof.HostArrays.lean ====
/- What the arrays hold that the kernel is launched on: the frequencies, the phases and the rows of the second linear
   map in the order in which the row program wants them. -/
module

public import proofs.«01_k».proof.Proof.Gen.KernelIdeal.Frame
public import proofs.«01_k».proof.Proof.Spec
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Routing.Ops
public import Idealize.ShloMosaic.PureOps.Ideal.Laws

@[expose] public section

set_option maxRecDepth 16384

noncomputable section

namespace Cert.KernelIdeal.Launched

open Cert.KernelIdeal Cert.KernelIdeal.Gen Idealize.ShloMosaic Idealize.SL.Sem Idealize.ShloMosaic.TcCoe

/-- The buffers' contents. -/
abbrev Mem := (ℓ : Loc nD τ sig) → Buf (Elt Ideal) ℓ

/-- The items: value, position, six times, per step. -/
def X (m : Mem) (c : Dev nD) : Shape.Idx S128x8x1600 → EReal := m ((c : Thread nD τ).loc main_arg0)

/-- The flag's table. -/
def G (m : Mem) (c : Dev nD) : Spec.Mat 2 128 := m ((c : Thread nD τ).loc main_arg1)

/-- The positions' table. -/
def P (m : Mem) (c : Dev nD) : Spec.Mat 1600 128 := m ((c : Thread nD τ).loc main_arg2)

/-- The frequencies. -/
def w (m : Mem) (c : Dev nD) : Spec.Mat 6 6 := m ((c : Thread nD τ).loc main_arg3)

/-- The phases. -/
def b (m : Mem) (c : Dev nD) : Spec.Mat 6 6 := m ((c : Thread nD τ).loc main_arg4)

/-- The second linear map. -/
def W (m : Mem) (c : Dev nD) : Spec.Mat 37 128 := m ((c : Thread nD τ).loc main_arg5)

/-- The second linear map's bias. -/
def bias (m : Mem) (c : Dev nD) : Shape.Idx S128 → EReal := m ((c : Thread nD τ).loc main_arg6)

variable (m : Mem) (c : Dev nD)

/-- The first linear map: a row per feature, the frequency at the feature's own input. -/
def freqs : FVec Ideal S40x6 .bf16 := V m c main_v43

/-- The phases, a column. -/
def phases : FVec Ideal S40x1 .f32 := V m c main_v12

/-- The second linear map, its rows reordered. -/
def weights : FVec Ideal S40x128 .bf16 := V m c main_v34

/-- The table added at the end. -/
def rows : FVec Ideal S1600x128 .f32 := V m c main_v40

/-- The table added at the end: the positions' rows, plus the bias and the row of the flag `1`. -/
theorem table (l : Fin 1600) (d : Fin 128) :
    (rows m c (ix2 l d) : EReal)
      = P m c (ix2 l d) + (bias m c (ix1 d) + G m c (ix2 1 d)) := by
  unfold rows V
  after_reads_at
  rfl

/-- The phases of the rows with a sine. -/
theorem phase_sin (f : Fin 6) (k : Fin 5) :
    (phases m c (ix2 ⟨5 * f.val + k.val, by omega⟩ 0) : EReal) = b m c (ix2 f k.succ) := by
  unfold phases V
  after_reads_at
  rw [dif_pos (by omega)]
  after_reads_at
  show b m c _ = b m c _
  rw [show (⟨1 + k.val, by omega⟩ : Fin 6) = k.succ from Fin.ext (Nat.add_comm _ _)]

/-- The phases of the rows without a sine. -/
theorem phase_lin (f : Fin 6) :
    (phases m c (ix2 ⟨32 + f.val, by omega⟩ 0) : EReal) = b m c (ix2 f 0) := by
  unfold phases V
  after_reads_at
  rw [dif_neg (by omega), dif_neg (by omega), dif_pos (by omega)]
  after_reads_at
  rw [show (⟨32 + f.val - 30 - 2, by omega⟩ : Fin 6) = f from Fin.ext (by show 32 + f.val - 30 - 2 = f.val; omega)]
  rfl

/-- The words of the zero-one matrix in the rows with a sine: one at the row's own input, zero elsewhere. -/
theorem word_sin (f : Fin 6) (k : Fin 5) (g : Fin 6) :
    lit2 (S40x6.rowMajor (ix2 ⟨5 * f.val + k.val, by omega⟩ g)) = if g = f then 0x3F800000#32 else 0x00000000#32 := by
  revert f k g
  decide

/-- The words of the zero-one matrix in the rows without a sine. -/
theorem word_lin (f : Fin 6) (g : Fin 6) :
    lit2 (S40x6.rowMajor (ix2 ⟨32 + f.val, by omega⟩ g)) = if g = f then 0x3F800000#32 else 0x00000000#32 := by
  revert f g
  decide

/-- A number times the zero-one matrix's entry. -/
theorem entry_mul (p : Prop) [Decidable p] (w : EReal) :
    Ideal.ofBits FTy.f32 (if p then 0x3F800000#32 else 0x00000000#32) * w = if p then w else 0 := by
  split
  · rw [Ideal.ofBits_one_f32, one_mul]
  · rw [Ideal.ofBits_zero_f32, zero_mul]

/-- The first linear map in the rows with a sine: the frequency at the row's own input, zero elsewhere. -/
theorem freq_sin (f : Fin 6) (k : Fin 5) (g : Fin 6) :
    (freqs m c (ix2 ⟨5 * f.val + k.val, by omega⟩ g) : EReal)
      = if g = f then w m c (ix2 f k.succ) else 0 := by
  unfold freqs V
  after_reads_at
  rw [dif_pos (by omega), word_sin, entry_mul]
  after_reads_at
  rw [show (⟨1 + k.val, by omega⟩ : Fin 6) = k.succ from Fin.ext (Nat.add_comm _ _)]
  rfl

/-- The first linear map in the rows without a sine. -/
theorem freq_lin (f : Fin 6) (g : Fin 6) :
    (freqs m c (ix2 ⟨32 + f.val, by omega⟩ g) : EReal)
      = if g = f then w m c (ix2 f 0) else 0 := by
  unfold freqs V
  after_reads_at
  rw [dif_neg (by omega), dif_neg (by omega), dif_pos (by omega), word_lin, entry_mul]
  after_reads_at
  rw [show (⟨32 + f.val - 30 - 2, by omega⟩ : Fin 6) = f from Fin.ext (by show 32 + f.val - 30 - 2 = f.val; omega)]
  rfl

/-- The order of the rows with a sine. -/
theorem order_sin (f : Fin 6) (k : Fin 5) : lit0 (S30.rowMajor (ix1 ⟨5 * f.val + k.val, by omega⟩)) = BitVec.ofNat 32 (6 * f.val + (k.val + 1)) := by
  revert f k
  decide

/-- The order of the rows without a sine. -/
theorem order_lin (f : Fin 6) : lit1 (S6.rowMajor (ix1 f)) = BitVec.ofNat 32 (6 * f.val) := by
  revert f
  decide

/-- The second linear map in the rows with a sine. -/
theorem weight_sin (f : Fin 6) (k : Fin 5) (d : Fin 128) :
    (weights m c (ix2 ⟨5 * f.val + k.val, by omega⟩ d) : EReal)
      = W m c (ix2 ⟨6 * f.val + (k.val + 1), by omega⟩ d) := by
  unfold weights V
  after_reads_at
  rw [dif_pos (by omega)]
  after_reads_at
  refine Routing.gather_row gather_S37x128_S30x1_S30x128_1_0_n_n_0_1_1128 rfl rfl rfl rfl rfl _ _ _ _ ⟨6 * f.val + (k.val + 1), by omega⟩ ?_ (by norm_num)
  pointwise
  exact order_sin f k

/-- The second linear map is zero in the two rows that stand for no feature. -/
theorem weight_none (k : Fin 2) (d : Fin 128) : (weights m c (ix2 ⟨30 + k.val, by omega⟩ d) : EReal) = 0 := by
  unfold weights V
  after_reads_at
  exact Ideal.ofBits_zero_f32

/-- The second linear map in the rows without a sine. -/
theorem weight_lin (f : Fin 6) (d : Fin 128) :
    (weights m c (ix2 ⟨32 + f.val, by omega⟩ d) : EReal) = W m c (ix2 ⟨6 * f.val, by omega⟩ d) := by
  unfold weights V
  after_reads_at
  rw [dif_neg (by omega), dif_neg (by omega), dif_pos (by omega)]
  after_reads_at
  refine Routing.gather_row gather_S37x128_S6x1_S6x128_1_0_n_n_0_1_1128 rfl rfl rfl rfl rfl _ _ _ _ ⟨6 * f.val, by omega⟩ ?_ (by norm_num)
  pointwise
  rw [show (⟨32 + f.val - 30 - 2, by omega⟩ : Fin 6) = f from Fin.ext (by show 32 + f.val - 30 - 2 = f.val; omega)]
  exact order_lin f

/-- The second linear map at the value's row. -/
theorem weight_value (d : Fin 128) : (weights m c (ix2 38 d) : EReal) = W m c (ix2 36 d) := by
  unfold weights V
  after_reads_at
  after_reads_at
  rfl

end Cert.KernelIdeal.Launched

end
-- ==== Proof.Sums.lean ====
/- Finite sums cut into pieces. -/
module

public import Mathlib.Algebra.BigOperators.Fin
public import Mathlib.Logic.Equiv.Fin.Basic

@[expose] public section

namespace Cert.Sums

variable {M : Type} [AddCommMonoid M]

/-- The place of the entry `(f, k)` in an `a` by `b` table read row by row. -/
theorem place_lt {a b : Nat} (f : Fin a) (k : Fin b) : b * f.val + k.val < a * b := by
  have h := Nat.mul_le_mul_right b (Nat.succ_le_of_lt f.isLt)
  rw [Nat.succ_mul, Nat.mul_comm f.val b] at h
  omega

/-- A sum over `a * b` numbers, taken row by row of an `a` by `b` table. -/
theorem sum_table (a b : Nat) (g : Fin (a * b) → M) : ∑ x, g x = ∑ f : Fin a, ∑ k : Fin b, g ⟨b * f.val + k.val, place_lt f k⟩ := by
  rw [← Fintype.sum_prod_type', ← Equiv.sum_comp finProdFinEquiv]
  refine Finset.sum_congr rfl fun p _ => congrArg g (Fin.ext ?_)
  show p.2.val + b * p.1.val = b * p.1.val + p.2.val
  omega

/-- A sum over thirty-two numbers whose last two are zero: the first thirty, in six rows of five. -/
theorem sum_thirtyTwo (g : Fin 32 → M) (h : ∀ k : Fin 2, g ⟨30 + k.val, by omega⟩ = 0) :
    ∑ x, g x = ∑ f : Fin 6, ∑ k : Fin 5, g ⟨5 * f.val + k.val, by omega⟩ := by
  refine (Fin.sum_univ_add (a := 30) (b := 2) g).trans ?_
  rw [show ∑ k : Fin 2, g (Fin.natAdd 30 k) = 0 from Finset.sum_eq_zero fun k _ => h k, add_zero]
  exact sum_table 6 5 fun x => g (Fin.castAdd 2 x)

/-- A sum over eight numbers: the first six, the seventh and the last. -/
theorem sum_eight (g : Fin 8 → M) : ∑ x, g x = ∑ f : Fin 6, g ⟨f.val, by omega⟩ + g 6 + g 7 := by
  rw [Fin.sum_univ_castSucc, Fin.sum_univ_castSucc]
  rfl

/-- A sum over thirty-seven numbers: the first thirty-six, of every six the first apart from the five others, and the
    last. -/
theorem sum_thirtySeven (g : Fin 37 → M) :
    ∑ x, g x = ∑ f : Fin 6, ∑ k : Fin 5, g ⟨6 * f.val + (k.val + 1), by omega⟩ + (∑ f : Fin 6, g ⟨6 * f.val, by omega⟩ + g 36) := by
  refine (Fin.sum_univ_castSucc g).trans ?_
  rw [sum_table 6 6 fun x => g (Fin.castSucc x), ← add_assoc, ← Finset.sum_add_distrib]
  refine congrArg₂ (· + ·) (Finset.sum_congr rfl fun f _ => ?_) rfl
  rw [Fin.sum_univ_succ, add_comm]
  rfl

end Cert.Sums
-- ==== Proof.Block.lean ====
/- What one grid point computes: its sixteen items are treated alike, each by the same row program. -/
module

public import proofs.«01_k».proof.Proof.Gen.KernelIdeal.Frame
public import proofs.«01_k».proof.Proof.Spec
public import proofs.«01_k».proof.Proof.Sums
public import Idealize.ShloMosaic.Lib.Pipeline.ValueKit

@[expose] public section

set_option maxRecDepth 16384

noncomputable section

namespace Cert.KernelIdeal.Block

open Cert.KernelIdeal Cert.KernelIdeal.Gen Idealize.ShloMosaic Idealize.SL.Sem

/-- The row program's linear map at the row `q` and the position `l` of an item `s`. -/
def line (r : FVec Ideal S40x6 .bf16) (bf : FVec Ideal S40x1 .f32) (s : FVec Ideal S1x8x1600 .f32) (q : Fin 40) (l : Fin 1600) : EReal :=
  ∑ g : Fin 6, r (ix2 q g) * s (ix3 0 ⟨2 + g.val, by omega⟩ l) + bf (ix2 q 0)

/-- The rows six and seven of the last eight are overwritten: no smaller row is the seventh. -/
theorem ne_seven (x : Fin 6) : IntOp.cmpi .eq (BitVec.ofNat 32 x.val) 7#32 = 0#1 := by revert x; decide

/-- No smaller row is the sixth. -/
theorem ne_six (x : Fin 6) : IntOp.cmpi .eq (BitVec.ofNat 32 x.val) 6#32 = 0#1 := by revert x; decide

/-- The two overwritten rows are told apart. -/
theorem rows_eq : IntOp.cmpi .eq (BitVec.ofNat 32 ((6 : Fin 8) : Nat)) 6#32 = 1#1 ∧ IntOp.cmpi .eq (BitVec.ofNat 32 ((6 : Fin 8) : Nat)) 7#32 = 0#1
    ∧ IntOp.cmpi .eq (BitVec.ofNat 32 ((7 : Fin 8) : Nat)) 7#32 = 1#1 := by decide

/-- The flag of a number, which is equal to itself, is zero. -/
theorem flag_zero : (FloatOps.sitofp .f32 (BitVec.setWidth 32 (BitVec.ofBool (decide False))) : Ideal .f32) = (0 : EReal) := by
  show (((BitVec.setWidth 32 (BitVec.ofBool (decide False))).toInt : ℝ) : EReal) = 0
  simp

/-- The row program at a position and a column: the thirty-two sines and the seven other features through the second
    linear map, plus the row of the table. -/
theorem row_at (r : FVec Ideal S40x6 .bf16) (bf : FVec Ideal S40x1 .f32) (vt : FVec Ideal S40x128 .bf16) (pb : FVec Ideal S1600x128 .f32)
    (s : FVec Ideal S1x8x1600 .f32) (l : Fin 1600) (d : Fin 128) :
    k0_pay10 r bf vt pb s (ix3 0 l d)
      = (∑ x : Fin 32, Ideal.sin (line r bf s ⟨x.val, by omega⟩ l) * vt (ix2 ⟨x.val, by omega⟩ d)
          + (∑ f : Fin 6, line r bf s ⟨32 + f.val, by omega⟩ l * vt (ix2 ⟨32 + f.val, by omega⟩ d) + s (ix3 0 0 l) * vt (ix2 38 d)))
        + pb (ix2 l d) := by
  pointwise [k0_pay10]
  rw [Sums.sum_eight]
  simp only [ne_eq, not_true_eq_false, if_false, flag_zero, ne_six, ne_seven, rows_eq.1, rows_eq.2.1, rows_eq.2.2, ValueIdx.select_one, ValueIdx.select_zero,
    zero_mul, add_zero]
  rfl

/-- A number array read through its own shape is itself. -/
theorem pay_id (x1 : Vec Ideal S40x6 .bf16) (x2 : Vec Ideal S40x1 .f32) (x3 : Vec Ideal S40x128 .bf16) (x4 : Vec Ideal S1600x128 .f32) :
    k0_pay2 x1 = x1 ∧ k0_pay3 x2 = x2 ∧ k0_pay4 x3 = x3 ∧ k0_pay5 x4 = x4 := by
  refine ⟨?_, ?_, ?_, ?_⟩ <;> (funext i; idx_vars i)
  · pointwise [k0_pay2]
  · pointwise [k0_pay3]
  · pointwise [k0_pay4]
  · pointwise [k0_pay5]

/-- The loads of a whole array are the array. -/
theorem loads (x1 : Vec Ideal S40x6 .bf16) (x2 : Vec Ideal S40x1 .f32) (x3 : Vec Ideal S40x128 .bf16) (x4 : Vec Ideal S1600x128 .f32) :
    View.ld x1 r0_0 = x1 ∧ View.ld x2 r0_1 = x2 ∧ View.ld x3 r0_2 = x3 ∧ View.ld x4 r0_3 = x4 := by
  have hz : (![0, 0] : Fin 2 → Nat) = fun _ => 0 := funext fun a => by fin_cases a <;> rfl
  exact ⟨View.ld_unit_zero hz _ _, View.ld_unit_zero hz _ _, View.ld_unit_zero hz _ _, View.ld_unit_zero hz _ _⟩

/-- The row program of one item, as the stores of a grid point spell it. -/
abbrev row (x1 : Vec Ideal S40x6 .bf16) (x2 : Vec Ideal S40x1 .f32) (x3 : Vec Ideal S40x128 .bf16) (x4 : Vec Ideal S1600x128 .f32)
    (s : Vec Ideal S1x8x1600 .f32) : Vec Ideal S1x1600x128 .f32 :=
  k0_pay10 (k0_pay2 (View.ld x1 r0_0)) (k0_pay3 (View.ld x2 r0_1)) (k0_pay4 (View.ld x3 r0_2)) (k0_pay5 (View.ld x4 r0_3)) s

/-- The sixteen stores of a grid point, each the row program of its item. -/
theorem out_rows (x0 : Vec Ideal S16x8x1600 .f32) (x1 : Vec Ideal S40x6 .bf16) (x2 : Vec Ideal S40x1 .f32) (x3 : Vec Ideal S40x128 .bf16)
    (x4 : Vec Ideal S1600x128 .f32) :
    out0_5 x0 x1 x2 x3 x4
      = View.canon [⟨r0_35, row x1 x2 x3 x4 (View.ld x0 r0_34)⟩, ⟨r0_33, row x1 x2 x3 x4 (View.ld x0 r0_32)⟩,
          ⟨r0_31, row x1 x2 x3 x4 (View.ld x0 r0_30)⟩, ⟨r0_29, row x1 x2 x3 x4 (View.ld x0 r0_28)⟩,
          ⟨r0_27, row x1 x2 x3 x4 (View.ld x0 r0_26)⟩, ⟨r0_25, row x1 x2 x3 x4 (View.ld x0 r0_24)⟩,
          ⟨r0_23, row x1 x2 x3 x4 (View.ld x0 r0_22)⟩, ⟨r0_21, row x1 x2 x3 x4 (View.ld x0 r0_20)⟩,
          ⟨r0_19, row x1 x2 x3 x4 (View.ld x0 r0_18)⟩, ⟨r0_17, row x1 x2 x3 x4 (View.ld x0 r0_16)⟩,
          ⟨r0_15, row x1 x2 x3 x4 (View.ld x0 r0_14)⟩, ⟨r0_13, row x1 x2 x3 x4 (View.ld x0 r0_12)⟩,
          ⟨r0_11, row x1 x2 x3 x4 (View.ld x0 r0_10)⟩, ⟨r0_9, row x1 x2 x3 x4 (View.ld x0 r0_8)⟩,
          ⟨r0_7, row x1 x2 x3 x4 (View.ld x0 r0_6)⟩, ⟨r0_5, row x1 x2 x3 x4 (View.ld x0 r0_4)⟩] := rfl

/-- One of those stores at a place: the row program of the item `n`. -/
theorem row_ld (x0 : Vec Ideal S16x8x1600 .f32) (x1 : Vec Ideal S40x6 .bf16) (x2 : Vec Ideal S40x1 .f32) (x3 : Vec Ideal S40x128 .bf16)
    (x4 : Vec Ideal S1600x128 .f32) (j : Fin 16) (l : Fin 1600) (d : Fin 128) (n : Nat) (inb) (x : S1x1600x128.Idx) (h0 : j.val = n + (x 0).val)
    (h1 : l.val = (x 1).val) (h2 : d.val = (x 2).val) :
    row x1 x2 x3 x4 (View.ld x0 (Rect.unit ![n, 0, 0] S1x8x1600.size inb)) x
      = k0_pay10 (F := Ideal) x1 x2 x3 x4 (fun i => x0 (ix3 j (i 1) (i 2))) (ix3 0 l d) := by
  have hx0 : (x 0).val < 1 := (x 0).isLt
  have hx : x = ix3 0 l d := by
    funext a
    match a with
    | ⟨0, _⟩ => exact Fin.ext (by show (x 0).val = 0; omega)
    | ⟨1, _⟩ => exact Fin.ext h1.symm
    | ⟨2, _⟩ => exact Fin.ext h2.symm
  have hs : View.ld x0 (Rect.unit ![n, 0, 0] S1x8x1600.size inb) = fun i : S1x8x1600.Idx => x0 (ix3 j (i 1) (i 2)) := by
    funext i
    have hi : (i 0).val < 1 := (i 0).isLt
    refine View.ld_unit_apply_of x0 _ _ inb i _ fun a => ?_
    match a with
    | ⟨0, _⟩ => show j.val = n + (i 0).val; omega
    | ⟨1, _⟩ => show (i 1).val = 0 + (i 1).val; omega
    | ⟨2, _⟩ => show (i 2).val = 0 + (i 2).val; omega
  obtain ⟨l1, l2, l3, l4⟩ := loads x1 x2 x3 x4
  obtain ⟨p1, p2, p3, p4⟩ := pay_id x1 x2 x3 x4
  rw [hs, hx, row, l1, l2, l3, l4, p1, p2, p3, p4]

/-- What a grid point leaves of the item `j`: the row program of that item. -/
theorem out_at (x0 : Vec Ideal S16x8x1600 .f32) (x1 : Vec Ideal S40x6 .bf16) (x2 : Vec Ideal S40x1 .f32) (x3 : Vec Ideal S40x128 .bf16)
    (x4 : Vec Ideal S1600x128 .f32) (j : Fin 16) (l : Fin 1600) (d : Fin 128) :
    out0_5 x0 x1 x2 x3 x4 (ix3 j l d) = k0_pay10 (F := Ideal) x1 x2 x3 x4 (fun i => x0 (ix3 j (i 1) (i 2))) (ix3 0 l d) := by
  rw [out_rows]
  canon_tiles x h
  all_goals first | exact row_ld _ _ _ _ _ _ _ _ _ _ x h0 h1 h2 | exact row_ld _ _ _ _ _ _ _ _ _ _ x (h0.trans (Nat.zero_add _).symm) h1 h2

end Cert.KernelIdeal.Block

end
-- ==== Proof.KernelValue.lean ====
/- What the kernel's result array holds after its run: the embedding, element by element. -/
module

public import proofs.«01_k».proof.Proof.Gen.KernelIdeal.Value
public import proofs.«01_k».proof.Proof.HostArrays
public import proofs.«01_k».proof.Proof.Block

@[expose] public section

set_option maxRecDepth 16384

noncomputable section

namespace Cert.KernelIdeal.Launched

open Cert.KernelIdeal Cert.KernelIdeal.Gen Idealize.ShloMosaic Idealize.SL.Sem Idealize.ShloMosaic.TcCoe

variable (m : Mem) (c : Dev nD)

/-- A sum in which only one input has a frequency. -/
theorem sum_one (f : Fin 6) (a : EReal) (x : Fin 6 → EReal) : ∑ g : Fin 6, (if g = f then a else 0) * x g = x f * a := by
  rw [Finset.sum_eq_single f (fun g _ h => by rw [if_neg h, zero_mul]) (fun h => absurd (Finset.mem_univ f) h), if_pos rfl, mul_comm]

variable (s : FVec Ideal S1x8x1600 .f32) (l : Fin 1600)

/-- The first linear map at the rows with a sine is the features' argument. -/
theorem line_sin (f : Fin 6) (k : Fin 5) :
    Block.line (freqs m c) (phases m c) s ⟨5 * f.val + k.val, by omega⟩ l
      = Spec.angle (fun f => s (ix3 0 ⟨2 + f.val, by omega⟩ l)) (w m c) (b m c) f k.succ := by
  unfold Block.line Spec.angle
  simp only [freq_sin, phase_sin]
  rw [sum_one f _ fun g => (s (ix3 0 ⟨2 + g.val, by omega⟩ l) : EReal)]

/-- The first linear map at the rows without a sine is the features' argument. -/
theorem line_lin (f : Fin 6) :
    Block.line (freqs m c) (phases m c) s ⟨32 + f.val, by omega⟩ l
      = Spec.angle (fun f => s (ix3 0 ⟨2 + f.val, by omega⟩ l)) (w m c) (b m c) f 0 := by
  unfold Block.line Spec.angle
  simp only [freq_lin, phase_lin]
  rw [sum_one f _ fun g => (s (ix3 0 ⟨2 + g.val, by omega⟩ l) : EReal)]

/-- The row program on the prepared arrays is the embedding's element. -/
theorem row_element (d : Fin 128) :
    k0_pay10 (freqs m c) (phases m c) (weights m c) (rows m c) s (ix3 0 l d)
      = Spec.element (fun f => s (ix3 0 ⟨2 + f.val, by omega⟩ l)) (s (ix3 0 0 l)) (w m c) (b m c) (W m c) d (P m c (ix2 l d))
          (bias m c (ix1 d)) (G m c (ix2 1 d)) := by
  rw [Block.row_at, Sums.sum_thirtyTwo]
  · unfold Spec.element Spec.periodic Spec.linear
    simp only [line_sin, line_lin, weight_sin, weight_lin, weight_value, table]
  · intro k
    rw [weight_none, mul_zero]

/-- The windows' blocks: sixteen items a point, the prepared arrays whole. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] :=
  (by decide +kernel : ∀ t : Fin grid0.N, _)

/-- Every point reads the frequencies whole. -/
theorem blk_freqs (t : Fin cfg0.N) : iblk m c 1 t = freqs m c := by
  unfold freqs
  blk_ext! [iblk, idx t]

/-- Every point reads the phases whole. -/
theorem blk_phases (t : Fin cfg0.N) : iblk m c 2 t = phases m c := by
  unfold phases
  blk_ext! [iblk, idx t]

/-- Every point reads the second linear map whole. -/
theorem blk_weights (t : Fin cfg0.N) : iblk m c 3 t = weights m c := by
  unfold weights
  blk_ext! [iblk, idx t]

/-- Every point reads the table whole. -/
theorem blk_rows (t : Fin cfg0.N) : iblk m c 4 t = rows m c := by
  unfold rows
  blk_ext! [iblk, idx t]

/-- The embedding of the launch's arguments, an array. -/
def embed : Buf (Elt Ideal) ((c : Thread nD τ).loc main_v44) := fun i : S128x1600x128.Idx =>
  Spec.embedding (X m c) (G m c) (P m c) (w m c) (b m c) (W m c) (bias m c) (i 0) (i 1) (i 2)

/-- An item of a point's block lies in the items' array. -/
theorem item_lt (t : Fin cfg0.N) (j : Fin 16) : 16 * t.val + j.val < 128 := by
  have h : t.val < 8 := t.isLt
  omega

/-- What a point reads of its items. -/
theorem blk_items (t : Fin cfg0.N) (j : Fin 16) (a : Fin 8) (l : Fin 1600) :
    (show FVec Ideal S16x8x1600 .f32 from iblk m c 0 t) (ix3 j a l) = X m c (ix3 ⟨16 * t.val + j.val, item_lt t j⟩ a l) := by
  unfold X
  blk_ext! [iblk, V, idx t]

/-- Where a point's results go. -/
theorem blk_out (t : Fin cfg0.N) (j : Fin 16) (l : Fin 1600) (d : Fin 128) :
    (win0_5.blk t).view.emb (ix3 j l d) = ix3 ⟨16 * t.val + j.val, item_lt t j⟩ l d := by
  blk_ext [idx t]

/-- What a point leaves at an item, a position and a column. -/
theorem point (t : Fin cfg0.N) (j : Fin 16) (l : Fin 1600) (d : Fin 128) :
    out0_5 (iblk m c 0 t) (freqs m c) (phases m c) (weights m c) (rows m c) (ix3 j l d)
      = embed m c (ix3 ⟨16 * t.val + j.val, item_lt t j⟩ l d) := by
  rw [Block.out_at, row_element]
  show Spec.element (fun f => (show FVec Ideal S16x8x1600 .f32 from iblk m c 0 t) (ix3 j ⟨2 + f.val, by omega⟩ l))
    ((show FVec Ideal S16x8x1600 .f32 from iblk m c 0 t) (ix3 j 0 l)) _ _ _ _ _ _ _ = _
  simp only [blk_items]
  rfl

/-- The result array after the run is the embedding. -/
theorem final : (dats m 0 c).arrAt 5 cfg0.N = embed m c := by
  refine (dats m 0 c).arrAt_eq_of_covers 5 _ (by decide +kernel) fun t hf y => ?_
  blk_simp
  rw [after0_5, blk_freqs, blk_phases, blk_weights, blk_rows]
  idx_vars y
  rw [blk_out]
  exact point m c t _ _ _

end Cert.KernelIdeal.Launched

end
-- ==== Proof.PlainArrays.lean ====
/- What the arrays hold that the simpler kernel is launched on: the zero-one matrix, the frequencies and phases as columns,
   the rows of the second linear map in the order in which the row program wants them, and the bias. -/
module

public import proofs.«01_k».proof.Proof.Gen.PlainIdeal.Frame
public import proofs.«01_k».proof.Proof.HostArrays

@[expose] public section

set_option maxRecDepth 16384

noncomputable section

namespace Cert.PlainIdeal.Launched

open Cert.PlainIdeal Cert.PlainIdeal.Gen Idealize.ShloMosaic Idealize.SL.Sem Idealize.ShloMosaic.TcCoe

/-- The buffers' contents. -/
abbrev Mem := (ℓ : Loc nD τ sig) → Buf (Elt Ideal) ℓ

/-- The items: value, position, six times, per step. -/
def X (m : Mem) (c : Dev nD) : Shape.Idx S128x8x1600 → EReal := m ((c : Thread nD τ).loc main_arg0)

/-- The flag's table. -/
def G (m : Mem) (c : Dev nD) : Spec.Mat 2 128 := m ((c : Thread nD τ).loc main_arg1)

/-- The positions' table. -/
def P (m : Mem) (c : Dev nD) : Spec.Mat 1600 128 := m ((c : Thread nD τ).loc main_arg2)

/-- The frequencies. -/
def w (m : Mem) (c : Dev nD) : Spec.Mat 6 6 := m ((c : Thread nD τ).loc main_arg3)

/-- The phases. -/
def b (m : Mem) (c : Dev nD) : Spec.Mat 6 6 := m ((c : Thread nD τ).loc main_arg4)

/-- The second linear map. -/
def W (m : Mem) (c : Dev nD) : Spec.Mat 37 128 := m ((c : Thread nD τ).loc main_arg5)

/-- The second linear map's bias. -/
def bias (m : Mem) (c : Dev nD) : Shape.Idx S128 → EReal := m ((c : Thread nD τ).loc main_arg6)

variable (m : Mem) (c : Dev nD)

/-- The zero-one matrix that hands every feature its input. -/
def picks : FVec Ideal S40x6 .f32 := V m c main_cst

/-- The frequencies, a column. -/
def freqs : FVec Ideal S40x1 .f32 := V m c main_v6

/-- The phases, a column. -/
def phases : FVec Ideal S40x1 .f32 := V m c main_v12

/-- The second linear map, its rows reordered. -/
def weights : FVec Ideal S40x128 .f32 := V m c main_v33

/-- The bias added at the end, a row. -/
def shift : FVec Ideal S1x128 .f32 := V m c main_v37

/-- The positions' table, as the launch finds it. -/
def rows : FVec Ideal S1600x128 .f32 := V m c main_arg2

/-- The two kernels' orders of rows and zero-one matrices are the same. -/
theorem orders : lit0 = Cert.KernelIdeal.lit0 ∧ lit1 = Cert.KernelIdeal.lit1 ∧ lit2 = Cert.KernelIdeal.lit2 := ⟨rfl, rfl, rfl⟩

/-- The positions' rows. -/
theorem row_at (l : Fin 1600) (d : Fin 128) : (rows m c (ix2 l d) : EReal) = P m c (ix2 l d) := by
  unfold rows V
  after_reads_at
  rfl

/-- The bias added at the end: the second linear map's, plus the row of the flag `1`. -/
theorem shift_at (d : Fin 128) : (shift m c (ix2 0 d) : EReal) = bias m c (ix1 d) + G m c (ix2 1 d) := by
  unfold shift V
  after_reads_at
  rfl

/-- The zero-one matrix in the rows with a sine. -/
theorem pick_sin (f : Fin 6) (k : Fin 5) (g : Fin 6) :
    (picks m c (ix2 ⟨5 * f.val + k.val, by omega⟩ g) : EReal) = if g = f then 1 else 0 := by
  unfold picks V
  after_reads_at
  rw [orders.2.2]
  rw [Cert.KernelIdeal.Launched.word_sin, ← mul_one (Ideal.ofBits _ _), Cert.KernelIdeal.Launched.entry_mul]

/-- The zero-one matrix in the rows without a sine. -/
theorem pick_lin (f g : Fin 6) : (picks m c (ix2 ⟨32 + f.val, by omega⟩ g) : EReal) = if g = f then 1 else 0 := by
  unfold picks V
  after_reads_at
  rw [orders.2.2]
  rw [Cert.KernelIdeal.Launched.word_lin, ← mul_one (Ideal.ofBits _ _), Cert.KernelIdeal.Launched.entry_mul]

/-- The frequencies of the rows with a sine. -/
theorem freq_sin (f : Fin 6) (k : Fin 5) : (freqs m c (ix2 ⟨5 * f.val + k.val, by omega⟩ 0) : EReal) = w m c (ix2 f k.succ) := by
  unfold freqs V
  after_reads_at
  rw [dif_pos (by omega)]
  after_reads_at
  show w m c _ = w m c _
  rw [show (⟨1 + k.val, by omega⟩ : Fin 6) = k.succ from Fin.ext (Nat.add_comm _ _)]

/-- The frequencies of the rows without a sine. -/
theorem freq_lin (f : Fin 6) : (freqs m c (ix2 ⟨32 + f.val, by omega⟩ 0) : EReal) = w m c (ix2 f 0) := by
  unfold freqs V
  after_reads_at
  rw [dif_neg (by omega), dif_neg (by omega), dif_pos (by omega)]
  after_reads_at
  rw [show (⟨32 + f.val - 30 - 2, by omega⟩ : Fin 6) = f from Fin.ext (by show 32 + f.val - 30 - 2 = f.val; omega)]
  rfl

/-- The phases of the rows with a sine. -/
theorem phase_sin (f : Fin 6) (k : Fin 5) : (phases m c (ix2 ⟨5 * f.val + k.val, by omega⟩ 0) : EReal) = b m c (ix2 f k.succ) := by
  unfold phases V
  after_reads_at
  rw [dif_pos (by omega)]
  after_reads_at
  show b m c _ = b m c _
  rw [show (⟨1 + k.val, by omega⟩ : Fin 6) = k.succ from Fin.ext (Nat.add_comm _ _)]

/-- The phases of the rows without a sine. -/
theorem phase_lin (f : Fin 6) : (phases m c (ix2 ⟨32 + f.val, by omega⟩ 0) : EReal) = b m c (ix2 f 0) := by
  unfold phases V
  after_reads_at
  rw [dif_neg (by omega), dif_neg (by omega), dif_pos (by omega)]
  after_reads_at
  rw [show (⟨32 + f.val - 30 - 2, by omega⟩ : Fin 6) = f from Fin.ext (by show 32 + f.val - 30 - 2 = f.val; omega)]
  rfl

/-- The second linear map in the rows with a sine. -/
theorem weight_sin (f : Fin 6) (k : Fin 5) (d : Fin 128) :
    (weights m c (ix2 ⟨5 * f.val + k.val, by omega⟩ d) : EReal) = W m c (ix2 ⟨6 * f.val + (k.val + 1), by omega⟩ d) := by
  unfold weights V
  after_reads_at
  rw [dif_pos (by omega)]
  after_reads_at
  refine Routing.gather_row gather_S37x128_S30x1_S30x128_1_0_n_n_0_1_1128 rfl rfl rfl rfl rfl _ _ _ _ ⟨6 * f.val + (k.val + 1), by omega⟩ ?_ (by norm_num)
  pointwise
  exact Cert.KernelIdeal.Launched.order_sin f k

/-- The second linear map is zero in the two rows that stand for no feature. -/
theorem weight_none (k : Fin 2) (d : Fin 128) : (weights m c (ix2 ⟨30 + k.val, by omega⟩ d) : EReal) = 0 := by
  unfold weights V
  after_reads_at
  exact Ideal.ofBits_zero_f32

/-- The second linear map in the rows without a sine. -/
theorem weight_lin (f : Fin 6) (d : Fin 128) :
    (weights m c (ix2 ⟨32 + f.val, by omega⟩ d) : EReal) = W m c (ix2 ⟨6 * f.val, by omega⟩ d) := by
  unfold weights V
  after_reads_at
  rw [dif_neg (by omega), dif_neg (by omega), dif_pos (by omega)]
  after_reads_at
  refine Routing.gather_row gather_S37x128_S6x1_S6x128_1_0_n_n_0_1_1128 rfl rfl rfl rfl rfl _ _ _ _ ⟨6 * f.val, by omega⟩ ?_ (by norm_num)
  pointwise
  rw [show (⟨32 + f.val - 30 - 2, by omega⟩ : Fin 6) = f from Fin.ext (by show 32 + f.val - 30 - 2 = f.val; omega)]
  exact Cert.KernelIdeal.Launched.order_lin f

/-- The second linear map at the value's row. -/
theorem weight_value (d : Fin 128) : (weights m c (ix2 38 d) : EReal) = W m c (ix2 36 d) := by
  unfold weights V
  after_reads_at
  after_reads_at
  rfl

end Cert.PlainIdeal.Launched

end
-- ==== Proof.PlainBlock.lean ====
/- What one grid point of the simpler kernel computes: the row program of one item. -/
module

public import proofs.«01_k».proof.Proof.Gen.PlainIdeal.Frame
public import proofs.«01_k».proof.Proof.Block

@[expose] public section

set_option maxRecDepth 16384

noncomputable section

namespace Cert.PlainIdeal.Block

open Cert.PlainIdeal Cert.PlainIdeal.Gen Idealize.ShloMosaic Idealize.SL.Sem
open Cert.KernelIdeal.Block (ne_six ne_seven rows_eq flag_zero)

/-- The first linear map at the row `q` and the position `l`: the row's input, times its frequency, plus its phase. -/
def line (r : FVec Ideal S40x6 .f32) (wf bf : FVec Ideal S40x1 .f32) (s : FVec Ideal S1x8x1600 .f32) (q : Fin 40) (l : Fin 1600) : EReal :=
  (∑ g : Fin 6, r (ix2 q g) * s (ix3 0 ⟨2 + g.val, by omega⟩ l)) * wf (ix2 q 0) + bf (ix2 q 0)

/-- The row program at a position and a column: the thirty-two sines and the seven other features through the second
    linear map, plus the bias, plus the position's row. -/
theorem row_at (r : FVec Ideal S40x6 .f32) (wf bf : FVec Ideal S40x1 .f32) (vt : FVec Ideal S40x128 .f32) (u : FVec Ideal S1x128 .f32)
    (p : FVec Ideal S1600x128 .f32) (s : FVec Ideal S1x8x1600 .f32) (l : Fin 1600) (d : Fin 128) :
    k0_pay1 (F := Ideal) (k0_pay2 (F := Ideal) s r wf bf) (k0_pay3 (F := Ideal) vt) u p (ix3 0 l d)
      = (∑ x : Fin 32, Ideal.sin (line r wf bf s ⟨x.val, by omega⟩ l) * vt (ix2 ⟨x.val, by omega⟩ d)
          + (∑ f : Fin 6, line r wf bf s ⟨32 + f.val, by omega⟩ l * vt (ix2 ⟨32 + f.val, by omega⟩ d) + s (ix3 0 0 l) * vt (ix2 38 d)))
        + u (ix2 0 d) + p (ix2 l d) := by
  pointwise [k0_pay1, k0_pay2, k0_pay3]
  rw [Cert.Sums.sum_eight]
  simp only [ne_eq, not_true_eq_false, if_false, flag_zero, ne_six, ne_seven, rows_eq.1, rows_eq.2.1, rows_eq.2.2, ValueIdx.select_one, ValueIdx.select_zero,
    zero_mul, add_zero]
  rfl

/-- What a grid point leaves: the row program of its item. -/
theorem out_at (x0 : Vec Ideal S1x8x1600 .f32) (x1 : Vec Ideal S40x6 .f32) (x2 x3 : Vec Ideal S40x1 .f32) (x4 : Vec Ideal S40x128 .f32)
    (x5 : Vec Ideal S1x128 .f32) (x6 : Vec Ideal S1600x128 .f32) :
    out0_7 (F := Ideal) x0 x1 x2 x3 x4 x5 x6 = k0_pay1 (k0_pay2 x0 x1 x2 x3) (k0_pay3 x4) x5 x6 := by
  have hz : (![0, 0] : Fin 2 → Nat) = fun _ => 0 := funext fun a => by fin_cases a <;> rfl
  have hz3 : (![0, 0, 0] : Fin 3 → Nat) = fun _ => 0 := funext fun a => by fin_cases a <;> rfl
  rw [out0_7, View.canon_unit_zero hz3]
  rw [View.ld_unit_zero hz3 _ x0, View.ld_unit_zero hz _ x1, View.ld_unit_zero hz _ x2, View.ld_unit_zero hz _ x3, View.ld_unit_zero hz _ x4,
    View.ld_unit_zero hz _ x5, View.ld_unit_zero hz _ x6]

end Cert.PlainIdeal.Block

end
-- ==== Proof.PlainValue.lean ====
/- What the simpler kernel's result array holds after its run: the embedding, element by element. -/
module

public import proofs.«01_k».proof.Proof.Gen.PlainIdeal.Value
public import proofs.«01_k».proof.Proof.KernelValue
public import proofs.«01_k».proof.Proof.PlainArrays
public import proofs.«01_k».proof.Proof.PlainBlock

@[expose] public section

set_option maxRecDepth 16384

noncomputable section

namespace Cert.PlainIdeal.Launched

open Cert.PlainIdeal Cert.PlainIdeal.Gen Idealize.ShloMosaic Idealize.SL.Sem Idealize.ShloMosaic.TcCoe
open Cert.KernelIdeal.Launched (sum_one)

variable (m : Mem) (c : Dev nD) (s : FVec Ideal S1x8x1600 .f32) (l : Fin 1600)

/-- The first linear map at the rows with a sine is the features' argument. -/
theorem line_sin (f : Fin 6) (k : Fin 5) :
    Block.line (picks m c) (freqs m c) (phases m c) s ⟨5 * f.val + k.val, by omega⟩ l
      = Spec.angle (fun f => s (ix3 0 ⟨2 + f.val, by omega⟩ l)) (w m c) (b m c) f k.succ := by
  unfold Block.line Spec.angle
  simp only [pick_sin, freq_sin, phase_sin]
  rw [sum_one f _ fun g => (s (ix3 0 ⟨2 + g.val, by omega⟩ l) : EReal), mul_one]

/-- The first linear map at the rows without a sine is the features' argument. -/
theorem line_lin (f : Fin 6) :
    Block.line (picks m c) (freqs m c) (phases m c) s ⟨32 + f.val, by omega⟩ l
      = Spec.angle (fun f => s (ix3 0 ⟨2 + f.val, by omega⟩ l)) (w m c) (b m c) f 0 := by
  unfold Block.line Spec.angle
  simp only [pick_lin, freq_lin, phase_lin]
  rw [sum_one f _ fun g => (s (ix3 0 ⟨2 + g.val, by omega⟩ l) : EReal), mul_one]

/-- The row program on the prepared arrays is the embedding's element. -/
theorem row_element (d : Fin 128) :
    k0_pay1 (F := Ideal) (k0_pay2 (F := Ideal) s (picks m c) (freqs m c) (phases m c)) (k0_pay3 (F := Ideal) (weights m c)) (shift m c) (rows m c) (ix3 0 l d)
      = Spec.element (fun f => s (ix3 0 ⟨2 + f.val, by omega⟩ l)) (s (ix3 0 0 l)) (w m c) (b m c) (W m c) d (P m c (ix2 l d))
          (bias m c (ix1 d)) (G m c (ix2 1 d)) := by
  rw [Block.row_at, Cert.Sums.sum_thirtyTwo]
  · unfold Spec.element Spec.periodic Spec.linear
    simp only [line_sin, line_lin, weight_sin, weight_lin, weight_value, shift_at, row_at]
    rw [add_assoc _ (bias m c (ix1 d) + G m c (ix2 1 d)), add_comm (bias m c (ix1 d) + G m c (ix2 1 d))]
  · intro k
    rw [weight_none, mul_zero]

/-- The windows' blocks: one item a point, the prepared arrays whole. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] :=
  (by decide +kernel : ∀ t : Fin grid0.N, _)

/-- Every point reads the zero-one matrix whole. -/
theorem blk_picks (t : Fin cfg0.N) : iblk m c 1 t = picks m c := by
  unfold picks
  blk_ext! [iblk, idx t]

/-- Every point reads the frequencies whole. -/
theorem blk_freqs (t : Fin cfg0.N) : iblk m c 2 t = freqs m c := by
  unfold freqs
  blk_ext! [iblk, idx t]

/-- Every point reads the phases whole. -/
theorem blk_phases (t : Fin cfg0.N) : iblk m c 3 t = phases m c := by
  unfold phases
  blk_ext! [iblk, idx t]

/-- Every point reads the second linear map whole. -/
theorem blk_weights (t : Fin cfg0.N) : iblk m c 4 t = weights m c := by
  unfold weights
  blk_ext! [iblk, idx t]

/-- Every point reads the bias whole. -/
theorem blk_shift (t : Fin cfg0.N) : iblk m c 5 t = shift m c := by
  unfold shift
  blk_ext! [iblk, idx t]

/-- Every point reads the positions' table whole. -/
theorem blk_rows (t : Fin cfg0.N) : iblk m c 6 t = rows m c := by
  unfold rows
  blk_ext! [iblk, idx t]

/-- The embedding of the launch's arguments, an array. -/
def embed : Buf (Elt Ideal) ((c : Thread nD τ).loc main_v38) := fun i : S128x1600x128.Idx =>
  Spec.embedding (X m c) (G m c) (P m c) (w m c) (b m c) (W m c) (bias m c) (i 0) (i 1) (i 2)

/-- A point's item. -/
theorem item_lt (t : Fin cfg0.N) : t.val < 128 := t.isLt

/-- What a point reads of its item. -/
theorem blk_item (t : Fin cfg0.N) (a : Fin 8) (l : Fin 1600) :
    (show FVec Ideal S1x8x1600 .f32 from iblk m c 0 t) (ix3 0 a l) = X m c (ix3 ⟨t.val, item_lt t⟩ a l) := by
  unfold X
  blk_ext! [iblk, V, idx t]

/-- Where a point's result goes. -/
theorem blk_out (t : Fin cfg0.N) (j : Fin 1) (l : Fin 1600) (d : Fin 128) :
    (win0_7.blk t).view.emb (ix3 j l d) = ix3 ⟨t.val, item_lt t⟩ l d := by
  blk_ext [idx t]

/-- What a point leaves at a position and a column. -/
theorem point (t : Fin cfg0.N) (j : Fin 1) (l : Fin 1600) (d : Fin 128) :
    out0_7 (iblk m c 0 t) (picks m c) (freqs m c) (phases m c) (weights m c) (shift m c) (rows m c) (ix3 j l d)
      = embed m c (ix3 ⟨t.val, item_lt t⟩ l d) := by
  rw [Subsingleton.elim j 0, Block.out_at, row_element]
  simp only [blk_item]
  rfl

/-- The result array after the run is the embedding. -/
theorem final : (dats m 0 c).arrAt 7 cfg0.N = embed m c := by
  refine (dats m 0 c).arrAt_eq_of_covers 7 _ (by decide +kernel) fun t hf y => ?_
  blk_simp
  rw [after0_7, blk_picks, blk_freqs, blk_phases, blk_weights, blk_shift, blk_rows]
  idx_vars y
  rw [blk_out]
  exact point m c t _ _ _

end Cert.PlainIdeal.Launched

end
-- ==== Proof.FlipArrays.lean ====
/- What the arrays hold that v11 with its own approximation of the sine is launched on: the frequencies, the phases and the
   rows of the second linear map in the order in which the row program wants them. -/
module

public import proofs.«01_k».proof.Proof.Gen.FlipIdeal.Frame
public import proofs.«01_k».proof.Proof.Spec
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Routing.Ops
public import Idealize.ShloMosaic.PureOps.Ideal.Laws

@[expose] public section

set_option maxRecDepth 16384

noncomputable section

namespace Cert.FlipIdeal.Launched

open Cert.FlipIdeal Cert.FlipIdeal.Gen Idealize.ShloMosaic Idealize.SL.Sem Idealize.ShloMosaic.TcCoe

/-- The buffers' contents. -/
abbrev Mem := (ℓ : Loc nD τ sig) → Buf (Elt Ideal) ℓ

/-- The items: value, position, six times, per step. -/
def X (m : Mem) (c : Dev nD) : Shape.Idx S128x8x1600 → EReal := m ((c : Thread nD τ).loc main_arg0)

/-- The flag's table. -/
def G (m : Mem) (c : Dev nD) : Spec.Mat 2 128 := m ((c : Thread nD τ).loc main_arg1)

/-- The positions' table. -/
def P (m : Mem) (c : Dev nD) : Spec.Mat 1600 128 := m ((c : Thread nD τ).loc main_arg2)

/-- The frequencies. -/
def w (m : Mem) (c : Dev nD) : Spec.Mat 6 6 := m ((c : Thread nD τ).loc main_arg3)

/-- The phases. -/
def b (m : Mem) (c : Dev nD) : Spec.Mat 6 6 := m ((c : Thread nD τ).loc main_arg4)

/-- The second linear map. -/
def W (m : Mem) (c : Dev nD) : Spec.Mat 37 128 := m ((c : Thread nD τ).loc main_arg5)

/-- The second linear map's bias. -/
def bias (m : Mem) (c : Dev nD) : Shape.Idx S128 → EReal := m ((c : Thread nD τ).loc main_arg6)

variable (m : Mem) (c : Dev nD)

/-- The first linear map: a row per feature, the frequency at the feature's own input. -/
def freqs : FVec Ideal S40x6 .bf16 := V m c main_v43

/-- The phases, a column. -/
def phases : FVec Ideal S40x1 .f32 := V m c main_v12

/-- The second linear map, its rows reordered. -/
def weights : FVec Ideal S40x128 .bf16 := V m c main_v34

/-- The table added at the end. -/
def rows : FVec Ideal S1600x128 .f32 := V m c main_v40

/-- The table added at the end: the positions' rows, plus the bias and the row of the flag `1`. -/
theorem table (l : Fin 1600) (d : Fin 128) :
    (rows m c (ix2 l d) : EReal)
      = P m c (ix2 l d) + (bias m c (ix1 d) + G m c (ix2 1 d)) := by
  unfold rows V
  after_reads_at
  rfl

/-- The phases of the rows with a sine. -/
theorem phase_sin (f : Fin 6) (k : Fin 5) :
    (phases m c (ix2 ⟨5 * f.val + k.val, by omega⟩ 0) : EReal) = b m c (ix2 f k.succ) := by
  unfold phases V
  after_reads_at
  rw [dif_pos (by omega)]
  after_reads_at
  show b m c _ = b m c _
  rw [show (⟨1 + k.val, by omega⟩ : Fin 6) = k.succ from Fin.ext (Nat.add_comm _ _)]

/-- The phases of the rows without a sine. -/
theorem phase_lin (f : Fin 6) :
    (phases m c (ix2 ⟨32 + f.val, by omega⟩ 0) : EReal) = b m c (ix2 f 0) := by
  unfold phases V
  after_reads_at
  rw [dif_neg (by omega), dif_neg (by omega), dif_pos (by omega)]
  after_reads_at
  rw [show (⟨32 + f.val - 30 - 2, by omega⟩ : Fin 6) = f from Fin.ext (by show 32 + f.val - 30 - 2 = f.val; omega)]
  rfl

/-- The words of the zero-one matrix in the rows with a sine: one at the row's own input, zero elsewhere. -/
theorem word_sin (f : Fin 6) (k : Fin 5) (g : Fin 6) :
    lit2 (S40x6.rowMajor (ix2 ⟨5 * f.val + k.val, by omega⟩ g)) = if g = f then 0x3F800000#32 else 0x00000000#32 := by
  revert f k g
  decide

/-- The words of the zero-one matrix in the rows without a sine. -/
theorem word_lin (f : Fin 6) (g : Fin 6) :
    lit2 (S40x6.rowMajor (ix2 ⟨32 + f.val, by omega⟩ g)) = if g = f then 0x3F800000#32 else 0x00000000#32 := by
  revert f g
  decide

/-- A number times the zero-one matrix's entry. -/
theorem entry_mul (p : Prop) [Decidable p] (w : EReal) :
    Ideal.ofBits FTy.f32 (if p then 0x3F800000#32 else 0x00000000#32) * w = if p then w else 0 := by
  split
  · rw [Ideal.ofBits_one_f32, one_mul]
  · rw [Ideal.ofBits_zero_f32, zero_mul]

/-- The first linear map in the rows with a sine: the frequency at the row's own input, zero elsewhere. -/
theorem freq_sin (f : Fin 6) (k : Fin 5) (g : Fin 6) :
    (freqs m c (ix2 ⟨5 * f.val + k.val, by omega⟩ g) : EReal)
      = if g = f then w m c (ix2 f k.succ) else 0 := by
  unfold freqs V
  after_reads_at
  rw [dif_pos (by omega), word_sin, entry_mul]
  after_reads_at
  rw [show (⟨1 + k.val, by omega⟩ : Fin 6) = k.succ from Fin.ext (Nat.add_comm _ _)]
  rfl

/-- The first linear map in the rows without a sine. -/
theorem freq_lin (f : Fin 6) (g : Fin 6) :
    (freqs m c (ix2 ⟨32 + f.val, by omega⟩ g) : EReal)
      = if g = f then w m c (ix2 f 0) else 0 := by
  unfold freqs V
  after_reads_at
  rw [dif_neg (by omega), dif_neg (by omega), dif_pos (by omega), word_lin, entry_mul]
  after_reads_at
  rw [show (⟨32 + f.val - 30 - 2, by omega⟩ : Fin 6) = f from Fin.ext (by show 32 + f.val - 30 - 2 = f.val; omega)]
  rfl

/-- The order of the rows with a sine. -/
theorem order_sin (f : Fin 6) (k : Fin 5) : lit0 (S30.rowMajor (ix1 ⟨5 * f.val + k.val, by omega⟩)) = BitVec.ofNat 32 (6 * f.val + (k.val + 1)) := by
  revert f k
  decide

/-- The order of the rows without a sine. -/
theorem order_lin (f : Fin 6) : lit1 (S6.rowMajor (ix1 f)) = BitVec.ofNat 32 (6 * f.val) := by
  revert f
  decide

/-- The second linear map in the rows with a sine. -/
theorem weight_sin (f : Fin 6) (k : Fin 5) (d : Fin 128) :
    (weights m c (ix2 ⟨5 * f.val + k.val, by omega⟩ d) : EReal)
      = W m c (ix2 ⟨6 * f.val + (k.val + 1), by omega⟩ d) := by
  unfold weights V
  after_reads_at
  rw [dif_pos (by omega)]
  after_reads_at
  refine Routing.gather_row gather_S37x128_S30x1_S30x128_1_0_n_n_0_1_1128 rfl rfl rfl rfl rfl _ _ _ _ ⟨6 * f.val + (k.val + 1), by omega⟩ ?_ (by norm_num)
  pointwise
  exact order_sin f k

/-- The second linear map is zero in the two rows that stand for no feature. -/
theorem weight_none (k : Fin 2) (d : Fin 128) : (weights m c (ix2 ⟨30 + k.val, by omega⟩ d) : EReal) = 0 := by
  unfold weights V
  after_reads_at
  exact Ideal.ofBits_zero_f32

/-- The second linear map in the rows without a sine. -/
theorem weight_lin (f : Fin 6) (d : Fin 128) :
    (weights m c (ix2 ⟨32 + f.val, by omega⟩ d) : EReal) = W m c (ix2 ⟨6 * f.val, by omega⟩ d) := by
  unfold weights V
  after_reads_at
  rw [dif_neg (by omega), dif_neg (by omega), dif_pos (by omega)]
  after_reads_at
  refine Routing.gather_row gather_S37x128_S6x1_S6x128_1_0_n_n_0_1_1128 rfl rfl rfl rfl rfl _ _ _ _ ⟨6 * f.val, by omega⟩ ?_ (by norm_num)
  pointwise
  rw [show (⟨32 + f.val - 30 - 2, by omega⟩ : Fin 6) = f from Fin.ext (by show 32 + f.val - 30 - 2 = f.val; omega)]
  exact order_lin f

/-- The second linear map at the value's row. -/
theorem weight_value (d : Fin 128) : (weights m c (ix2 38 d) : EReal) = W m c (ix2 36 d) := by
  unfold weights V
  after_reads_at
  after_reads_at
  rfl

end Cert.FlipIdeal.Launched

end
-- ==== Proof.Approx.lean ====
/- How near the fast sine is to the sine, over the real numbers: the argument is reduced by the nearest multiple of π and
   an odd polynomial of degree seven is taken of the remainder. -/
module

public import Mathlib.Analysis.SpecialFunctions.Trigonometric.Basic
public import Mathlib.Analysis.Complex.Exponential

@[expose] public section

noncomputable section

namespace Cert.Approx

/-- The float nearest to `1/π`. -/
def inv : ℝ := 10680707 / 2 ^ 25

/-- The first part of π. -/
def hi : ℝ := 201 / 64

/-- The second part of π. -/
def lo : ℝ := 16624162 / 2 ^ 34

/-- The multiple of π that is subtracted. -/
def turns (t : ℝ) : ℤ := ⌊t * inv + 1 / 2⌋

/-- What remains of the argument. -/
def rest (t : ℝ) : ℝ := t - turns t * hi - turns t * lo

/-- The polynomial, of the square of the remainder. -/
def poly (s : ℝ) : ℝ := 16777174 / 2 ^ 24 + s * (-(11183804 / 2 ^ 26) + s * (8922251 / 2 ^ 30 + s * (-(12676371 / 2 ^ 36))))

/-- The sine near zero. -/
def core (r : ℝ) : ℝ := r * poly (r * r)

/-- The fast sine: the sine near zero of what remains, negated at an odd number of turns. -/
def fast (t : ℝ) : ℝ := if turns t % 2 = 1 then 0 - core (rest t) else core (rest t)

/-- The first terms of the sine's series, up to the eleventh power. -/
def series (r : ℝ) : ℝ := r - r ^ 3 / 6 + r ^ 5 / 120 - r ^ 7 / 5040 + r ^ 9 / 362880 - r ^ 11 / 39916800

/-- The sine is near the first terms of its series. -/
theorem sin_series (r : ℝ) (h : |r| ≤ 2) : |Real.sin r - series r| ≤ |r| ^ 13 / 6227020800 * 2 := by
  have hn : ‖(r : ℂ) * Complex.I‖ = |r| := by simp
  have h1 := Complex.exp_bound' (x := (r : ℂ) * Complex.I) (n := 13) (by rw [hn]; push_cast; linarith)
  have h2 := (Complex.abs_im_le_norm _).trans h1
  rw [hn] at h2
  have e1 : (Complex.exp ((r : ℂ) * Complex.I)).im = Real.sin r := by rw [Complex.exp_ofReal_mul_I_im]
  have e2 : (∑ m ∈ Finset.range 13, ((r : ℂ) * Complex.I) ^ m / (m.factorial : ℂ)).im = series r := by
    have hs : (∑ m ∈ Finset.range 13, ((r : ℂ) * Complex.I) ^ m / (m.factorial : ℂ))
        = ((1 - r ^ 2 / 2 + r ^ 4 / 24 - r ^ 6 / 720 + r ^ 8 / 40320 - r ^ 10 / 3628800 + r ^ 12 / 479001600 : ℝ) : ℂ) + (series r : ℂ) * Complex.I := by
      have i2 : Complex.I ^ 2 = -1 := Complex.I_sq
      have i3 : Complex.I ^ 3 = -Complex.I := by rw [pow_succ, i2]; ring
      have i4 : Complex.I ^ 4 = 1 := Complex.I_pow_four
      have i (k j : ℕ) : Complex.I ^ (4 * k + j) = Complex.I ^ j := by rw [pow_add, pow_mul, i4, one_pow, one_mul]
      simp only [Finset.sum_range_succ, Finset.sum_range_zero, mul_pow, Nat.factorial]
      rw [show Complex.I ^ 12 = 1 from (i 3 0).trans (pow_zero _), show Complex.I ^ 11 = -Complex.I from (i 2 3).trans i3,
        show Complex.I ^ 10 = -1 from (i 2 2).trans i2, show Complex.I ^ 9 = Complex.I from (i 2 1).trans (pow_one _),
        show Complex.I ^ 8 = 1 from (i 2 0).trans (pow_zero _), show Complex.I ^ 7 = -Complex.I from (i 1 3).trans i3,
        show Complex.I ^ 6 = -1 from (i 1 2).trans i2, show Complex.I ^ 5 = Complex.I from (i 1 1).trans (pow_one _), i4, i3, i2]
      unfold series
      push_cast
      ring
    rw [hs, Complex.add_im, Complex.ofReal_im, Complex.im_ofReal_mul, Complex.I_im, mul_one, zero_add]
  rw [Complex.sub_im, e1, e2] at h2
  refine h2.trans (le_of_eq ?_)
  norm_num [Nat.factorial]

/-- The difference of the polynomial and the series, without its factor `r`, as a polynomial of the square. -/
def gap (s : ℝ) : ℝ :=
  -(21 / 8388608) + s * (755 / 50331648 + s * (-(383963 / 16106127360) + s * (301910431 / 21646635171840 + s * (-(1 / 362880) + s / 39916800))))

theorem core_series (r : ℝ) : core r - series r = r * gap (r * r) := by
  unfold core series gap poly
  ring

/-- The gap on the unit interval. -/
theorem gap_low (s : ℝ) (h0 : 0 ≤ s) (h1 : s ≤ 1) : |gap s| ≤ 26 / 10 ^ 7 := by
  have hu : 0 ≤ s - 0 := by linarith
  have hv : 0 ≤ 1 - s := by linarith
  generalize hU : s - 0 = u at hu
  generalize hV : 1 - s = v at hv
  have up : 0 ≤ 13 / 5000000 - gap s := by
    have e : 13 / 5000000 - gap s = 3344561 / 655360000000 * (u ^ 0 * v ^ 5) + 8270491 / 786432000000 * (u ^ 1 * v ^ 4) + 748507223 / 50331648000000 * (u ^ 2 * v ^ 3) + 1258372810837 / 67645734912000000 * (u ^ 3 * v ^ 2) + 3620887520477 / 304405807104000000 * (u ^ 4 * v ^ 1) + 91276147078619 / 33484638781440000000 * (u ^ 5 * v ^ 0) := by
      subst hU hV
      unfold gap
      ring
    rw [e]
    positivity
  have dn : 0 ≤ 13 / 5000000 + gap s := by
    have e : 13 / 5000000 + gap s = 63311 / 655360000000 * (u ^ 0 * v ^ 5) + 12176741 / 786432000000 * (u ^ 1 * v ^ 4) + 1868738473 / 50331648000000 * (u ^ 2 * v ^ 3) + 2259205404587 / 67645734912000000 * (u ^ 3 * v ^ 2) + 4293663464227 / 304405807104000000 * (u ^ 4 * v ^ 1) + 82843974584869 / 33484638781440000000 * (u ^ 5 * v ^ 0) := by
      subst hU hV
      unfold gap
      ring
    rw [e]
    positivity
  rw [abs_le]
  constructor <;> linarith

/-- The gap on the rest of the squares. -/
theorem gap_high (s : ℝ) (h0 : 1 ≤ s) (h1 : s ≤ 24678 / 10000) : |gap s| ≤ 165 / 10 ^ 8 := by
  have hu : 0 ≤ s - 1 := by linarith
  have hv : 0 ≤ 12339/5000 - s := by linarith
  generalize hU : s - 1 = u at hu
  generalize hV : 12339/5000 - s = v at hv
  have up : 0 ≤ 33 / 20000000 - gap s := by
    have e : 33 / 20000000 - gap s = 72590014936829833984375 / 278477487193805726468618059776 * (u ^ 0 * v ^ 5) + 533737566001763916015625 / 318259985364349401678420639744 * (u ^ 1 * v ^ 4) + 7046184958967410595703125 / 1980284353378174054887950647296 * (u ^ 2 * v ^ 3) + 1316620020279275252890625 / 754394039382161544719219294208 * (u ^ 3 * v ^ 2) + 34347885539037009357875 / 2640379137837565406517267529728 * (u ^ 4 * v ^ 1) + 16919331986573402291901909 / 44006318963959423441954458828800 * (u ^ 5 * v ^ 0) := by
      subst hU hV
      unfold gap
      ring
    rw [e]
    positivity
  have dn : 0 ≤ 33 / 20000000 + gap s := by
    have e : 33 / 20000000 + gap s = 62296835623170166015625 / 278477487193805726468618059776 * (u ^ 0 * v ^ 5) + 237044437198236083984375 / 318259985364349401678420639744 * (u ^ 1 * v ^ 4) + 2545768858632589404296875 / 1980284353378174054887950647296 * (u ^ 2 * v ^ 3) + 2337457624520724747109375 / 754394039382161544719219294208 * (u ^ 3 * v ^ 2) + 6360287992860962990642125 / 2640379137837565406517267529728 * (u ^ 4 * v ^ 1) + 4396120941426597708098091 / 44006318963959423441954458828800 * (u ^ 5 * v ^ 0) := by
      subst hU hV
      unfold gap
      ring
    rw [e]
    positivity
  rw [abs_le]
  constructor <;> linarith

/-- Near zero the polynomial is near the sine. -/
theorem core_near (r : ℝ) (h : |r| ≤ 15709 / 10000) : |core r - Real.sin r| ≤ 28 / 10 ^ 7 := by
  have h0 := abs_nonneg r
  have hs := sin_series r (h.trans (by norm_num))
  have hp : |r| ^ 13 ≤ (15709 / 10000 : ℝ) ^ 13 := pow_le_pow_left₀ h0 h 13
  have hs : |Real.sin r - series r| ≤ 12 / 10 ^ 8 := hs.trans (by
    have : (15709 / 10000 : ℝ) ^ 13 ≤ 356 := by norm_num
    linarith)
  have hr : r * r = |r| * |r| := (abs_mul_abs_self r).symm
  have hg : |core r - series r| ≤ 26 / 10 ^ 7 := by
    rw [core_series, abs_mul]
    rcases le_total |r| 1 with h1 | h1
    · have hb := gap_low (r * r) (mul_self_nonneg r) (by rw [hr]; nlinarith)
      nlinarith [abs_nonneg (gap (r * r))]
    · have hb := gap_high (r * r) (by rw [hr]; nlinarith) (by rw [hr]; nlinarith)
      nlinarith [abs_nonneg (gap (r * r))]
  have e : core r - Real.sin r = (core r - series r) - (Real.sin r - series r) := by ring
  rw [e]
  refine (abs_sub _ _).trans ?_
  linarith

/-- A small shift of the argument moves the sine little. -/
theorem sin_shift (r e : ℝ) (h : |e| ≤ 1) : |Real.sin (r + e) - Real.sin r| ≤ 2 * |e| := by
  have hb := Real.sin_bound (x := e / 2) (by rw [abs_div, abs_two]; linarith)
  have h0 := abs_nonneg e
  have hs : |Real.sin (e / 2)| ≤ |e| := by
    have h3 := abs_sub_abs_le_abs_sub (Real.sin (e / 2)) (e / 2 - (e / 2) ^ 3 / 6)
    have h4 := abs_sub (e / 2) ((e / 2) ^ 3 / 6)
    rw [abs_div (_ ^ 3), abs_pow, abs_div e, abs_two, abs_of_pos (by norm_num : (0 : ℝ) < 6)] at h4
    rw [abs_div e, abs_two] at hb
    have p3 : (|e| / 2) ^ 3 ≤ |e| / 2 := by
      have : (|e| / 2) ^ 2 ≤ 1 := by nlinarith
      nlinarith [mul_nonneg (by positivity : 0 ≤ |e| / 2) (sub_nonneg.2 this)]
    have p5 : (|e| / 2) ^ 5 ≤ |e| / 2 := by
      have : (|e| / 2) ^ 4 ≤ 1 := pow_le_one₀ (by positivity) (by linarith)
      nlinarith [mul_nonneg (by positivity : 0 ≤ |e| / 2) (sub_nonneg.2 this)]
    linarith
  rw [Real.sin_sub_sin, abs_mul, abs_mul, abs_two, show (r + e - r) / 2 = e / 2 by ring]
  have hc := Real.abs_cos_le_one ((r + e + r) / 2)
  nlinarith [abs_nonneg (Real.sin (e / 2)), abs_nonneg (Real.cos ((r + e + r) / 2))]

/-- The two parts of π together are near π. -/
theorem pi_near : |Real.pi - (hi + lo)| ≤ 1 / 10 ^ 9 := by
  have h3 := Real.two_le_pi
  have h4 := Real.pi_le_four
  have key (x : ℝ) (hx : |x| ≤ 6 / 10) : |Real.sin x - series x| ≤ 1 / 10 ^ 12 := by
    refine (sin_series x (hx.trans (by norm_num))).trans ?_
    have hp : |x| ^ 13 ≤ (6 / 10 : ℝ) ^ 13 := pow_le_pow_left₀ (abs_nonneg x) hx 13
    have : (6 / 10 : ℝ) ^ 13 / 6227020800 * 2 ≤ 1 / 10 ^ 12 := by norm_num
    linarith
  have low : (hi + lo) / 6 - 1 / 10 ^ 10 < Real.pi / 6 := by
    rw [← Real.strictMonoOn_sin.lt_iff_lt ⟨by unfold hi lo; linarith, by unfold hi lo; linarith⟩ ⟨by linarith, by linarith⟩, Real.sin_pi_div_six]
    have h := (abs_le.1 (key ((hi + lo) / 6 - 1 / 10 ^ 10) (by rw [abs_le]; unfold hi lo; constructor <;> norm_num))).2
    have hv : series ((hi + lo) / 6 - 1 / 10 ^ 10) ≤ 1 / 2 - 1 / 10 ^ 11 := by unfold series hi lo; norm_num
    linarith
  have high : Real.pi / 6 < (hi + lo) / 6 + 1 / 10 ^ 10 := by
    rw [← Real.strictMonoOn_sin.lt_iff_lt ⟨by linarith, by linarith⟩ ⟨by unfold hi lo; linarith, by unfold hi lo; linarith⟩, Real.sin_pi_div_six]
    have h := (abs_le.1 (key ((hi + lo) / 6 + 1 / 10 ^ 10) (by rw [abs_le]; unfold hi lo; constructor <;> norm_num))).1
    have hv : 1 / 2 + 1 / 10 ^ 11 ≤ series ((hi + lo) / 6 + 1 / 10 ^ 10) := by unfold series hi lo; norm_num
    linarith
  rw [abs_le]
  constructor <;> linarith

/-- How many turns an argument of at most 1024 takes. -/
theorem turns_le (t : ℝ) (h : |t| ≤ 1024) : |(turns t : ℝ)| ≤ 327 := by
  have h1 := Int.floor_le (t * inv + 1 / 2)
  have h2 := Int.lt_floor_add_one (t * inv + 1 / 2)
  obtain ⟨ha, hb⟩ := abs_le.1 h
  rw [abs_le]
  unfold turns
  unfold inv at *
  constructor <;> linarith

/-- What remains is at most a little over half of π. -/
theorem rest_le (t : ℝ) (h : |t| ≤ 1024) : |rest t| ≤ 15709 / 10000 := by
  have h1 := Int.floor_le (t * inv + 1 / 2)
  have h2 := Int.lt_floor_add_one (t * inv + 1 / 2)
  obtain ⟨ha, hb⟩ := abs_le.1 (turns_le t h)
  rw [abs_le]
  unfold rest
  unfold turns at *
  unfold inv hi lo at *
  constructor <;> linarith

/-- THE FAST SINE IS NEAR THE SINE for arguments of at most 1024 in size. -/
theorem fast_near (t : ℝ) (h : |t| ≤ 1024) : |fast t - Real.sin t| ≤ 1 / 2 ^ 18 := by
  have hc := core_near (rest t) (rest_le t h)
  have hn := turns_le t h
  have he : |(turns t : ℝ) * (hi + lo - Real.pi)| ≤ 327 / 10 ^ 9 := by
    rw [abs_mul, abs_sub_comm]
    nlinarith [pi_near, abs_nonneg (turns t : ℝ), abs_nonneg (Real.pi - (hi + lo))]
  have hs := sin_shift (rest t) ((turns t : ℝ) * (hi + lo - Real.pi)) (he.trans (by norm_num))
  have ht : Real.sin t = (-1) ^ turns t * Real.sin (rest t + (turns t : ℝ) * (hi + lo - Real.pi)) := by
    rw [← Real.sin_add_int_mul_pi]
    congr 1
    unfold rest
    ring
  have hd : |core (rest t) - Real.sin (rest t + (turns t : ℝ) * (hi + lo - Real.pi))| ≤ 1 / 2 ^ 18 := by
    have e : core (rest t) - Real.sin (rest t + (turns t : ℝ) * (hi + lo - Real.pi))
        = (core (rest t) - Real.sin (rest t)) - (Real.sin (rest t + (turns t : ℝ) * (hi + lo - Real.pi)) - Real.sin (rest t)) := by ring
    rw [e]
    refine (abs_sub _ _).trans ?_
    have : (28 / 10 ^ 7 + 2 * (327 / 10 ^ 9) : ℝ) ≤ 1 / 2 ^ 18 := by norm_num
    linarith
  unfold fast
  rcases Int.even_or_odd (turns t) with hv | hv
  · rw [if_neg (by rw [Int.even_iff] at hv; omega), ht, hv.neg_one_zpow, one_mul]
    exact hd
  · rw [if_pos (Int.odd_iff.1 hv), ht, hv.neg_one_zpow, neg_one_mul, zero_sub, neg_sub_neg, abs_sub_comm]
    exact hd

end Cert.Approx

end
-- ==== Proof.Quick.lean ====
/- v11's approximation of the sine over the extended reals: on a real number of at most 1024 in size it is the fast sine
   over the reals, and so near the sine. -/
module

public import proofs.«01_k».proof.Proof.Approx
public import Idealize.ShloMosaic.Lib.Pointwise
public import Idealize.ShloMosaic.PureOps.Ideal.Laws

@[expose] public section

noncomputable section

namespace Cert.Approx

open Idealize.ShloMosaic

/-- How many turns an argument takes. -/
def count (t : EReal) : EReal := Ideal.liftRound Int.floor (t * Ideal.ofBits .f32 0x3EA2F983#32 + Ideal.ofBits .f32 0x3F000000#32)

/-- What remains of an argument. -/
def remainder (t : EReal) : EReal := t - count t * Ideal.ofBits .f32 0x40490000#32 - count t * Ideal.ofBits .f32 0x3A7DAA22#32

/-- The polynomial of a remainder. -/
def value (r : EReal) : EReal :=
  r * (Ideal.ofBits .f32 0x3F7FFFD6#32 + r * r * (Ideal.ofBits .f32 0xBE2AA6BC#32
    + r * r * (Ideal.ofBits .f32 0x3C08248B#32 + r * r * Ideal.ofBits .f32 0xB9416D13#32)))

/-- Whether the count of the turns is odd. -/
def odd (t : EReal) : BitVec 1 := IntOp.cmpi .eq (Ideal.fptosi 32 (count t) &&& 1#32) 1#32

/-- The approximation: the polynomial of the remainder, and its negative where the count is odd. -/
def quick (t : EReal) : EReal := Scalar.select (odd t) (0 - value (remainder t)) (value (remainder t))

/-- The numbers that the constants' words stand for. -/
theorem words :
    Ideal.ofBits .f32 0x3EA2F983#32 = ((10680707 / 2 ^ 25 : ℝ) : EReal)
    ∧ Ideal.ofBits .f32 0x3F000000#32 = ((1 / 2 : ℝ) : EReal)
    ∧ Ideal.ofBits .f32 0x40490000#32 = ((201 / 64 : ℝ) : EReal)
    ∧ Ideal.ofBits .f32 0x3A7DAA22#32 = ((16624162 / 2 ^ 34 : ℝ) : EReal)
    ∧ Ideal.ofBits .f32 0x3F7FFFD6#32 = ((16777174 / 2 ^ 24 : ℝ) : EReal)
    ∧ Ideal.ofBits .f32 0xBE2AA6BC#32 = ((-(11183804 / 2 ^ 26) : ℝ) : EReal)
    ∧ Ideal.ofBits .f32 0x3C08248B#32 = ((8922251 / 2 ^ 30 : ℝ) : EReal)
    ∧ Ideal.ofBits .f32 0xB9416D13#32 = ((-(12676371 / 2 ^ 36) : ℝ) : EReal) := by
  refine ⟨?_, ?_, ?_, ?_, ?_, ?_, ?_, ?_⟩ <;> (simp [Ideal.ofBits, Ideal.ieee]; rw [← EReal.coe_mul]; norm_num)

theorem count_coe (t : ℝ) : count t = ((turns t : ℝ) : EReal) := by
  unfold count
  rw [words.1, words.2.1, ← EReal.coe_mul, ← EReal.coe_add]
  show ((⌊t * (10680707 / 2 ^ 25) + 1 / 2⌋ : ℝ) : EReal) = _
  rfl

theorem remainder_coe (t : ℝ) : remainder t = ((rest t : ℝ) : EReal) := by
  unfold remainder
  rw [count_coe, words.2.2.1, words.2.2.2.1, ← EReal.coe_mul, ← EReal.coe_mul, ← EReal.coe_sub, ← EReal.coe_sub]
  rfl

theorem value_coe (r : ℝ) : value r = ((core r : ℝ) : EReal) := by
  obtain ⟨-, -, -, -, h1, h2, h3, h4⟩ := words
  unfold value
  rw [h1, h2, h3, h4]
  simp only [← EReal.coe_mul, ← EReal.coe_add]
  rfl

/-- The last bit of a small whole number. -/
theorem last_bit (k : Fin 655) :
    IntOp.cmpi .eq (BitVec.ofInt 32 ((k.val : ℤ) - 327) &&& 1#32) 1#32 = if ((k.val : ℤ) - 327) % 2 = 1 then 1#1 else 0#1 := by
  revert k
  decide +kernel

theorem odd_coe (t : ℝ) (h : |t| ≤ 1024) : odd t = if turns t % 2 = 1 then 1#1 else 0#1 := by
  have hn := turns_le t h
  unfold odd
  rw [count_coe, Ideal.fptosi]
  generalize turns t = n at hn
  obtain ⟨h1, h2⟩ := abs_le.1 hn
  have h1 : -327 ≤ n := by exact_mod_cast h1
  have h2 : n ≤ 327 := by exact_mod_cast h2
  have e : Ideal.toIntClamped (-(2 ^ (32 - 1) : Nat)) ((2 ^ (32 - 1) : Nat) - 1) (((n : ℝ)) : EReal) = n := by
    rw [Ideal.toIntClamped_coe, Int.floor_intCast, Int.ceil_intCast, ite_self]
    omega
  rw [e]
  have hk := last_bit ⟨(n + 327).toNat, by omega⟩
  rw [show (((⟨(n + 327).toNat, by omega⟩ : Fin 655).val : ℤ) - 327) = n by show ((n + 327).toNat : ℤ) - 327 = n; omega] at hk
  exact hk

/-- On a real number of at most 1024 in size the approximation is the fast sine. -/
theorem quick_coe (t : ℝ) (h : |t| ≤ 1024) : quick t = ((fast t : ℝ) : EReal) := by
  unfold quick fast
  rw [odd_coe t h, remainder_coe, value_coe]
  split
  · rw [ValueIdx.select_one, ← EReal.coe_zero, ← EReal.coe_sub]
  · rw [ValueIdx.select_zero]

end Cert.Approx

end
-- ==== Proof.FlipBlock.lean ====
/- What one grid point computes of v11 with its own approximation of the sine: its sixteen items are treated alike, each
   by the same row program. -/
module

public import proofs.«01_k».proof.Proof.Gen.FlipIdeal.Frame
public import proofs.«01_k».proof.Proof.Spec
public import proofs.«01_k».proof.Proof.Sums
public import proofs.«01_k».proof.Proof.Quick
public import Idealize.ShloMosaic.Lib.Pipeline.ValueKit

@[expose] public section

set_option maxRecDepth 16384

noncomputable section

namespace Cert.FlipIdeal.Block

open Cert.FlipIdeal Cert.FlipIdeal.Gen Idealize.ShloMosaic Idealize.SL.Sem

/-- The row program's linear map at the row `q` and the position `l` of an item `s`. -/
def line (r : FVec Ideal S40x6 .bf16) (bf : FVec Ideal S40x1 .f32) (s : FVec Ideal S1x8x1600 .f32) (q : Fin 40) (l : Fin 1600) : EReal :=
  ∑ g : Fin 6, r (ix2 q g) * s (ix3 0 ⟨2 + g.val, by omega⟩ l) + bf (ix2 q 0)

/-- The rows six and seven of the last eight are overwritten: no smaller row is the seventh. -/
theorem ne_seven (x : Fin 6) : IntOp.cmpi .eq (BitVec.ofNat 32 x.val) 7#32 = 0#1 := by revert x; decide

/-- No smaller row is the sixth. -/
theorem ne_six (x : Fin 6) : IntOp.cmpi .eq (BitVec.ofNat 32 x.val) 6#32 = 0#1 := by revert x; decide

/-- The two overwritten rows are told apart. -/
theorem rows_eq : IntOp.cmpi .eq (BitVec.ofNat 32 ((6 : Fin 8) : Nat)) 6#32 = 1#1 ∧ IntOp.cmpi .eq (BitVec.ofNat 32 ((6 : Fin 8) : Nat)) 7#32 = 0#1
    ∧ IntOp.cmpi .eq (BitVec.ofNat 32 ((7 : Fin 8) : Nat)) 7#32 = 1#1 := by decide

/-- The flag of a number, which is equal to itself, is zero. -/
theorem flag_zero : (FloatOps.sitofp .f32 (BitVec.setWidth 32 (BitVec.ofBool (decide False))) : Ideal .f32) = (0 : EReal) := by
  show (((BitVec.setWidth 32 (BitVec.ofBool (decide False))).toInt : ℝ) : EReal) = 0
  simp

/-- The row program of one item. -/
def row (r : FVec Ideal S40x6 .bf16) (bf : FVec Ideal S40x1 .f32) (vt : FVec Ideal S40x128 .bf16) (pb : FVec Ideal S1600x128 .f32)
    (s : FVec Ideal S1x8x1600 .f32) : FVec Ideal S1x1600x128 .f32 :=
  k0_pay15 (k0_pay4 vt) (k0_pay5 pb) (k0_pay8 (F := Ideal) s) (k0_pay9 s) (k0_pay10 r bf s) (k0_pay13 (F := Ideal) r bf s) (k0_pay14 r bf s)

/-- The row program at a position and a column: the thirty-two approximated sines and the seven other features through
    the second linear map, plus the row of the table. -/
theorem row_at (r : FVec Ideal S40x6 .bf16) (bf : FVec Ideal S40x1 .f32) (vt : FVec Ideal S40x128 .bf16) (pb : FVec Ideal S1600x128 .f32)
    (s : FVec Ideal S1x8x1600 .f32) (l : Fin 1600) (d : Fin 128) :
    row r bf vt pb s (ix3 0 l d)
      = (∑ x : Fin 32, Approx.quick (line r bf s ⟨x.val, by omega⟩ l) * vt (ix2 ⟨x.val, by omega⟩ d)
          + (∑ f : Fin 6, line r bf s ⟨32 + f.val, by omega⟩ l * vt (ix2 ⟨32 + f.val, by omega⟩ d) + s (ix3 0 0 l) * vt (ix2 38 d)))
        + pb (ix2 l d) := by
  pointwise [row, k0_pay15, k0_pay4, k0_pay5, k0_pay8, k0_pay9, k0_pay10, k0_pay13, k0_pay14, k0_pay12, k0_pay11, k0_pay7, k0_pay6, k0_pay2, k0_pay3]
  rw [Sums.sum_eight]
  simp only [ne_eq, not_true_eq_false, if_false, flag_zero, ne_six, ne_seven, rows_eq.1, rows_eq.2.1, rows_eq.2.2, ValueIdx.select_one, ValueIdx.select_zero,
    zero_mul, add_zero]
  rfl

/-- The loads of a whole array are the array. -/
theorem loads (x1 : Vec Ideal S40x6 .bf16) (x2 : Vec Ideal S40x1 .f32) (x3 : Vec Ideal S40x128 .bf16) (x4 : Vec Ideal S1600x128 .f32) :
    View.ld x1 r0_0 = x1 ∧ View.ld x2 r0_1 = x2 ∧ View.ld x3 r0_2 = x3 ∧ View.ld x4 r0_3 = x4 := by
  have hz : (![0, 0] : Fin 2 → Nat) = fun _ => 0 := funext fun a => by fin_cases a <;> rfl
  exact ⟨View.ld_unit_zero hz _ _, View.ld_unit_zero hz _ _, View.ld_unit_zero hz _ _, View.ld_unit_zero hz _ _⟩

/-- The row program of one item, as the stores of a grid point spell it. -/
abbrev item (x1 : Vec Ideal S40x6 .bf16) (x2 : Vec Ideal S40x1 .f32) (x3 : Vec Ideal S40x128 .bf16) (x4 : Vec Ideal S1600x128 .f32)
    (s : Vec Ideal S1x8x1600 .f32) : Vec Ideal S1x1600x128 .f32 :=
  row (View.ld x1 r0_0) (View.ld x2 r0_1) (View.ld x3 r0_2) (View.ld x4 r0_3) s

/-- The sixteen stores of a grid point, each the row program of its item. -/
theorem out_rows (x0 : Vec Ideal S16x8x1600 .f32) (x1 : Vec Ideal S40x6 .bf16) (x2 : Vec Ideal S40x1 .f32) (x3 : Vec Ideal S40x128 .bf16)
    (x4 : Vec Ideal S1600x128 .f32) :
    out0_5 x0 x1 x2 x3 x4
      = View.canon [⟨r0_35, item x1 x2 x3 x4 (View.ld x0 r0_34)⟩,
          ⟨r0_33, item x1 x2 x3 x4 (View.ld x0 r0_32)⟩,
          ⟨r0_31, item x1 x2 x3 x4 (View.ld x0 r0_30)⟩,
          ⟨r0_29, item x1 x2 x3 x4 (View.ld x0 r0_28)⟩,
          ⟨r0_27, item x1 x2 x3 x4 (View.ld x0 r0_26)⟩,
          ⟨r0_25, item x1 x2 x3 x4 (View.ld x0 r0_24)⟩,
          ⟨r0_23, item x1 x2 x3 x4 (View.ld x0 r0_22)⟩,
          ⟨r0_21, item x1 x2 x3 x4 (View.ld x0 r0_20)⟩,
          ⟨r0_19, item x1 x2 x3 x4 (View.ld x0 r0_18)⟩,
          ⟨r0_17, item x1 x2 x3 x4 (View.ld x0 r0_16)⟩,
          ⟨r0_15, item x1 x2 x3 x4 (View.ld x0 r0_14)⟩,
          ⟨r0_13, item x1 x2 x3 x4 (View.ld x0 r0_12)⟩,
          ⟨r0_11, item x1 x2 x3 x4 (View.ld x0 r0_10)⟩,
          ⟨r0_9, item x1 x2 x3 x4 (View.ld x0 r0_8)⟩,
          ⟨r0_7, item x1 x2 x3 x4 (View.ld x0 r0_6)⟩,
          ⟨r0_5, item x1 x2 x3 x4 (View.ld x0 r0_4)⟩] := rfl

/-- One of those stores at a place: the row program of the item `n`. -/
theorem row_ld (x0 : Vec Ideal S16x8x1600 .f32) (x1 : Vec Ideal S40x6 .bf16) (x2 : Vec Ideal S40x1 .f32) (x3 : Vec Ideal S40x128 .bf16)
    (x4 : Vec Ideal S1600x128 .f32) (j : Fin 16) (l : Fin 1600) (d : Fin 128) (n : Nat) (inb) (x : S1x1600x128.Idx) (h0 : j.val = n + (x 0).val)
    (h1 : l.val = (x 1).val) (h2 : d.val = (x 2).val) :
    item x1 x2 x3 x4 (View.ld x0 (Rect.unit ![n, 0, 0] S1x8x1600.size inb)) x
      = row x1 x2 x3 x4 (fun i => x0 (ix3 j (i 1) (i 2))) (ix3 0 l d) := by
  have hx0 : (x 0).val < 1 := (x 0).isLt
  have hx : x = ix3 0 l d := by
    funext a
    match a with
    | ⟨0, _⟩ => exact Fin.ext (by show (x 0).val = 0; omega)
    | ⟨1, _⟩ => exact Fin.ext h1.symm
    | ⟨2, _⟩ => exact Fin.ext h2.symm
  have hs : View.ld x0 (Rect.unit ![n, 0, 0] S1x8x1600.size inb) = fun i : S1x8x1600.Idx => x0 (ix3 j (i 1) (i 2)) := by
    funext i
    have hi : (i 0).val < 1 := (i 0).isLt
    refine View.ld_unit_apply_of x0 _ _ inb i _ fun a => ?_
    match a with
    | ⟨0, _⟩ => show j.val = n + (i 0).val; omega
    | ⟨1, _⟩ => show (i 1).val = 0 + (i 1).val; omega
    | ⟨2, _⟩ => show (i 2).val = 0 + (i 2).val; omega
  obtain ⟨l1, l2, l3, l4⟩ := loads x1 x2 x3 x4
  rw [hs, hx, item, l1, l2, l3, l4]

/-- What a grid point leaves of the item `j`: the row program of that item. -/
theorem out_at (x0 : Vec Ideal S16x8x1600 .f32) (x1 : Vec Ideal S40x6 .bf16) (x2 : Vec Ideal S40x1 .f32) (x3 : Vec Ideal S40x128 .bf16)
    (x4 : Vec Ideal S1600x128 .f32) (j : Fin 16) (l : Fin 1600) (d : Fin 128) :
    out0_5 x0 x1 x2 x3 x4 (ix3 j l d) = row x1 x2 x3 x4 (fun i => x0 (ix3 j (i 1) (i 2))) (ix3 0 l d) := by
  rw [out_rows]
  canon_tiles x h
  all_goals first | exact row_ld _ _ _ _ _ _ _ _ _ _ x h0 h1 h2 | exact row_ld _ _ _ _ _ _ _ _ _ _ x (h0.trans (Nat.zero_add _).symm) h1 h2

end Cert.FlipIdeal.Block

end
-- ==== Proof.FlipValue.lean ====
/- What the result array of v11 with its own approximation of the sine holds after the run: the embedding with that
   approximation in the sine's place, element by element. -/
module

public import proofs.«01_k».proof.Proof.Gen.FlipIdeal.Value
public import proofs.«01_k».proof.Proof.FlipArrays
public import proofs.«01_k».proof.Proof.FlipBlock

@[expose] public section

set_option maxRecDepth 16384

noncomputable section

namespace Cert.FlipIdeal.Launched

open Cert.FlipIdeal Cert.FlipIdeal.Gen Idealize.ShloMosaic Idealize.SL.Sem Idealize.ShloMosaic.TcCoe

variable (m : Mem) (c : Dev nD)

/-- A sum in which only one input has a frequency. -/
theorem sum_one (f : Fin 6) (a : EReal) (x : Fin 6 → EReal) : ∑ g : Fin 6, (if g = f then a else 0) * x g = x f * a := by
  rw [Finset.sum_eq_single f (fun g _ h => by rw [if_neg h, zero_mul]) (fun h => absurd (Finset.mem_univ f) h), if_pos rfl, mul_comm]

variable (s : FVec Ideal S1x8x1600 .f32) (l : Fin 1600)

/-- The first linear map at the rows with a sine is the features' argument. -/
theorem line_sin (f : Fin 6) (k : Fin 5) :
    Block.line (freqs m c) (phases m c) s ⟨5 * f.val + k.val, by omega⟩ l
      = Spec.angle (fun f => s (ix3 0 ⟨2 + f.val, by omega⟩ l)) (w m c) (b m c) f k.succ := by
  unfold Block.line Spec.angle
  simp only [freq_sin, phase_sin]
  rw [sum_one f _ fun g => (s (ix3 0 ⟨2 + g.val, by omega⟩ l) : EReal)]

/-- The first linear map at the rows without a sine is the features' argument. -/
theorem line_lin (f : Fin 6) :
    Block.line (freqs m c) (phases m c) s ⟨32 + f.val, by omega⟩ l
      = Spec.angle (fun f => s (ix3 0 ⟨2 + f.val, by omega⟩ l)) (w m c) (b m c) f 0 := by
  unfold Block.line Spec.angle
  simp only [freq_lin, phase_lin]
  rw [sum_one f _ fun g => (s (ix3 0 ⟨2 + g.val, by omega⟩ l) : EReal)]

/-- The row program on the prepared arrays is the element of that embedding. -/
theorem row_element (d : Fin 128) :
    Block.row (freqs m c) (phases m c) (weights m c) (rows m c) s (ix3 0 l d)
      = Spec.elementOf Approx.quick (fun f => s (ix3 0 ⟨2 + f.val, by omega⟩ l)) (s (ix3 0 0 l)) (w m c) (b m c) (W m c) d (P m c (ix2 l d))
          (bias m c (ix1 d)) (G m c (ix2 1 d)) := by
  rw [Block.row_at, Sums.sum_thirtyTwo]
  · unfold Spec.elementOf Spec.linear
    simp only [line_sin, line_lin, weight_sin, weight_lin, weight_value, table]
  · intro k
    rw [weight_none, mul_zero]

/-- The windows' blocks: sixteen items a point, the prepared arrays whole. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] :=
  (by decide +kernel : ∀ t : Fin grid0.N, _)

/-- Every point reads the frequencies whole. -/
theorem blk_freqs (t : Fin cfg0.N) : iblk m c 1 t = freqs m c := by
  unfold freqs
  blk_ext! [iblk, idx t]

/-- Every point reads the phases whole. -/
theorem blk_phases (t : Fin cfg0.N) : iblk m c 2 t = phases m c := by
  unfold phases
  blk_ext! [iblk, idx t]

/-- Every point reads the second linear map whole. -/
theorem blk_weights (t : Fin cfg0.N) : iblk m c 3 t = weights m c := by
  unfold weights
  blk_ext! [iblk, idx t]

/-- Every point reads the table whole. -/
theorem blk_rows (t : Fin cfg0.N) : iblk m c 4 t = rows m c := by
  unfold rows
  blk_ext! [iblk, idx t]

/-- The embedding of the launch's arguments, an array. -/
def embed : Buf (Elt Ideal) ((c : Thread nD τ).loc main_v44) := fun i : S128x1600x128.Idx =>
  Spec.embeddingOf Approx.quick (X m c) (G m c) (P m c) (w m c) (b m c) (W m c) (bias m c) (i 0) (i 1) (i 2)

/-- An item of a point's block lies in the items' array. -/
theorem item_lt (t : Fin cfg0.N) (j : Fin 16) : 16 * t.val + j.val < 128 := by
  have h : t.val < 8 := t.isLt
  omega

/-- What a point reads of its items. -/
theorem blk_items (t : Fin cfg0.N) (j : Fin 16) (a : Fin 8) (l : Fin 1600) :
    (show FVec Ideal S16x8x1600 .f32 from iblk m c 0 t) (ix3 j a l) = X m c (ix3 ⟨16 * t.val + j.val, item_lt t j⟩ a l) := by
  unfold X
  blk_ext! [iblk, V, idx t]

/-- Where a point's results go. -/
theorem blk_out (t : Fin cfg0.N) (j : Fin 16) (l : Fin 1600) (d : Fin 128) :
    (win0_5.blk t).view.emb (ix3 j l d) = ix3 ⟨16 * t.val + j.val, item_lt t j⟩ l d := by
  blk_ext [idx t]

/-- What a point leaves at an item, a position and a column. -/
theorem point (t : Fin cfg0.N) (j : Fin 16) (l : Fin 1600) (d : Fin 128) :
    out0_5 (iblk m c 0 t) (freqs m c) (phases m c) (weights m c) (rows m c) (ix3 j l d)
      = embed m c (ix3 ⟨16 * t.val + j.val, item_lt t j⟩ l d) := by
  rw [Block.out_at, row_element]
  show Spec.elementOf Approx.quick (fun f => (show FVec Ideal S16x8x1600 .f32 from iblk m c 0 t) (ix3 j ⟨2 + f.val, by omega⟩ l))
    ((show FVec Ideal S16x8x1600 .f32 from iblk m c 0 t) (ix3 j 0 l)) _ _ _ _ _ _ _ = _
  simp only [blk_items]
  rfl

/-- The result array after the run is that embedding. -/
theorem final : (dats m 0 c).arrAt 5 cfg0.N = embed m c := by
  refine (dats m 0 c).arrAt_eq_of_covers 5 _ (by decide +kernel) fun t hf y => ?_
  blk_simp
  rw [after0_5, blk_freqs, blk_phases, blk_weights, blk_rows]
  idx_vars y
  rw [blk_out]
  exact point m c t _ _ _

end Cert.FlipIdeal.Launched

end
-- ==== Proof.RefStages.lean ====
/- The reference, as functions on arrays: one definition per stage of the embedding. -/
module

public import proofs.«01_k».proof.Proof.Gen.ReferenceIdeal
public import Idealize.ShloMosaic.Lib.StableHlo.Run

@[expose] public section

noncomputable section

namespace Cert.ReferenceIdeal.Model

open Cert.ReferenceIdeal Cert.ReferenceIdeal.Gen Idealize.ShloMosaic Idealize.ShloMosaic.TcCoe Idealize.SL.Sem Idealize.ShloMosaic.StableHlo

variable {F : FTy → Type} [FloatOps F]

/-- The array of shape `s` that holds the number with the bits `w` everywhere. -/
def splat (s : Shape) (h : S_.BroadcastsInDim s (![] : Fin 0 → Fin s.rank)) (w : BitVec 32) : FVec F s .f32 :=
  broadcastInDim s ![] h (constant S_ .f32 w)

/-- `nan_to_num`: not-a-numbers become zero, the infinities the greatest and the least finite number. -/
def nanToNum (s : Shape) (h : S_.BroadcastsInDim s (![] : Fin 0 → Fin s.rank)) (v : FVec F s .f32) : FVec F s .f32 :=
  let a := select (cmpf .une v v) (splat s h 0x00000000#32) v
  let b := select (cmpf .oeq a (splat s h 0x7F800000#32)) (splat s h 0x7F7FFFFF#32) a
  select (cmpf .oeq b (splat s h 0xFF800000#32)) (splat s h 0xFF7FFFFF#32) b

/-- The values: row 0 of every item, as a column. -/
def valuesRaw (X : FVec F S128x8x1600 .f32) : FVec F S128x1600x1 .f32 :=
  broadcastInDim S128x1600x1 ![0, 1] bcast_S128x1600_S128x1600x1_0_1
    (shapeCast S128x1600 (extractStridedSlice S128x1x1600 ![0, 0, 0] X slices_S128x8x1600_S128x1x1600_0_0_0) shapeCasts_S128x1x1600_S128x1600)

/-- The values after `nan_to_num`. -/
def values (X : FVec F S128x8x1600 .f32) : FVec F S128x1600x1 .f32 := nanToNum S128x1600x1 bcast_S_S128x1600x1 (valuesRaw X)

/-- The positions: row 1 of every item, as integers. -/
def positions (X : FVec F S128x8x1600 .f32) : IVec S128x1600 32 :=
  fptosi 32 (shapeCast S128x1600 (extractStridedSlice S128x1x1600 ![0, 1, 0] X slices_S128x8x1600_S128x1x1600_0_1_0) shapeCasts_S128x1x1600_S128x1600)

/-- The integer array that holds `w` everywhere. -/
def splatI (s : Shape) (h : S_.BroadcastsInDim s (![] : Fin 0 → Fin s.rank)) (w : BitVec 32) : IVec s 32 :=
  broadcastInDim s ![] h (constantI S_ 32 w)

/-- Whether a value is given: one where it is a number, zero where it is not. -/
def given (X : FVec F S128x8x1600 .f32) : IVec S128x1600 32 :=
  muli (muli (splatI S128x1600 bcast_S_S128x1600 1#32)
      (extui 32 (noti (shapeCast S128x1600 (cmpf .une (valuesRaw X) (valuesRaw X)) shapeCasts_S128x1600x1_S128x1600)) natLt_1_32))
    (extui 32 (shapeCast S128x1600 (cmpf .oeq (values X) (values X)) shapeCasts_S128x1600x1_S128x1600) natLt_1_32)

/-- The indices of a table of `n` rows, a negative one counted from the end. -/
def wrapped (n : BitVec 32) (i : IVec S128x1600 32) : IVec S128x1600x1 32 :=
  broadcastInDim S128x1600x1 ![0, 1] bcast_S128x1600_S128x1600x1_0_1
    (select (cmpi .slt i (splatI S128x1600 bcast_S_S128x1600 0#32)) (addi i (splatI S128x1600 bcast_S_S128x1600 n)) i)

/-- Whether an index lies between zero and the table's last row `hi`. -/
def inside (hi : BitVec 32) (k : IVec S128x1600x1 32) : IVec S128x1600 1 :=
  Host.reduce IntOp.andi
    (andi (cmpi .sge k (splatI S128x1600x1 bcast_S_S128x1600x1 0#32))
      (cmpi .sle k (broadcastInDim S128x1600x1 ![0, 1, 2] bcast_S1x1x1_S128x1600x1_0_1_2
        (broadcastInDim S1x1x1 ![2] bcast_S1_S1x1x1_2 (constantI S1 32 hi)))))
    (constantI S_ 1 1#1) reducesTo_S128x1600x1_S128x1600_d2 h_S_

/-- The rows of a table at the indices `k`, and not-a-number at an index outside the table. -/
def takeRows {t : Shape} (d : GatherDims t S128x1600x1 S128x1600x128) (hi : BitVec 32) (T : FVec F t .f32) (k : IVec S128x1600x1 32) :
    FVec F S128x1600x128 .f32 :=
  select (broadcastInDim S128x1600x128 ![0, 1] bcast_S128x1600_S128x1600x128_0_1 (inside hi k)) (Host.gather d T k)
    (splat S128x1600x128 bcast_S_S128x1600x128 0x7FC00000#32)

/-- The six inputs per item and position, after `nan_to_num`. -/
def inputs (X : FVec F S128x8x1600 .f32) : FVec F S128x1600x6 .f32 :=
  nanToNum S128x1600x6 bcast_S_S128x1600x6
    (transpose S128x1600x6 [0, 2, 1] (extractStridedSlice S128x6x1600 ![0, 2, 0] X slices_S128x8x1600_S128x6x1600_0_2_0) transposes_S128x6x1600_S128x1600x6_0_2_1)

/-- Every input times every frequency, plus the phase. -/
def affine (X : FVec F S128x8x1600 .f32) (w b : FVec F S6x6 .f32) : FVec F S128x1600x6x6 .f32 :=
  addf
    (mulf (broadcastInDim S128x1600x6x6 ![0, 1, 2, 3] bcast_S128x1600x6x1_S128x1600x6x6_0_1_2_3
        (broadcastInDim S128x1600x6x1 ![0, 1, 2] bcast_S128x1600x6_S128x1600x6x1_0_1_2 (inputs X)))
      (broadcastInDim S128x1600x6x6 ![0, 1, 2, 3] bcast_S1x1x6x6_S128x1600x6x6_0_1_2_3 (broadcastInDim S1x1x6x6 ![2, 3] bcast_S6x6_S1x1x6x6_2_3 w)))
    (broadcastInDim S128x1600x6x6 ![0, 1, 2, 3] bcast_S1x1x6x6_S128x1600x6x6_0_1_2_3 (broadcastInDim S1x1x6x6 ![2, 3] bcast_S6x6_S1x1x6x6_2_3 b))

/-- The time features: of every input's six numbers the first as it is, the others' sines. -/
def timeFeatures (a : FVec F S128x1600x6x6 .f32) : FVec F S128x1600x6x6 .f32 :=
  concatenate S128x1600x6x6 3
    [⟨S128x1600x6x1, extractStridedSlice S128x1600x6x1 ![0, 0, 0, 0] a slices_S128x1600x6x6_S128x1600x6x1_0_0_0_0⟩,
     ⟨S128x1600x6x5, Host.sin (extractStridedSlice S128x1600x6x5 ![0, 0, 0, 1] a slices_S128x1600x6x6_S128x1600x6x5_0_0_0_1)⟩]
    concatenates_S128x1600x6x1_S128x1600x6x5_S128x1600x6x6_d3

/-- All features: the thirty-six time features, then the value. -/
def features (X : FVec F S128x8x1600 .f32) (w b : FVec F S6x6 .f32) : FVec F S128x1600x37 .f32 :=
  concatenate S128x1600x37 2
    [⟨S128x1600x36, shapeCast S128x1600x36 (timeFeatures (affine X w b)) shapeCasts_S128x1600x6x6_S128x1600x36⟩, ⟨S128x1600x1, values X⟩]
    concatenates_S128x1600x36_S128x1600x1_S128x1600x37_d2

/-- The result: the features through the linear layer, plus its bias, the position's row and the given flag's row. -/
def result (X : FVec F S128x8x1600 .f32) (G : FVec F S2x128 .f32) (P : FVec F S1600x128 .f32) (w b : FVec F S6x6 .f32)
    (W : FVec F S37x128 .f32) (c : FVec F S128 .f32) : FVec F S128x1600x128 .f32 :=
  addf
    (addf
      (addf (Host.dotGeneral dot_S128x1600x37_S37x128_S128x1600x128_2_0_01_1_n_n none (features X w b) W)
        (broadcastInDim S128x1600x128 ![0, 1, 2] bcast_S1x1x128_S128x1600x128_0_1_2 (broadcastInDim S1x1x128 ![2] bcast_S128_S1x1x128_2 c)))
      (takeRows gather_S1600x128_S128x1600x1_S128x1600x128_2_0_n_n_0_2_1128 1599#32 P (wrapped 1600#32 (positions X))))
    (takeRows gather_S2x128_S128x1600x1_S128x1600x128_2_0_n_n_0_2_1128 1#32 G (wrapped 2#32 (given X)))

end Cert.ReferenceIdeal.Model

end
-- ==== Proof.Lookup.lean ====
/- Rows of a table looked up at an array of row numbers. -/
module

public import proofs.«01_k».proof.Proof.RefStages
public import Idealize.ShloMosaic.Lib.Pointwise
public import Idealize.ShloMosaic.Lib.Routing.Ops
public import Idealize.ShloMosaic.Lib.ReduceAll

@[expose] public section

set_option maxRecDepth 16384

noncomputable section

namespace Cert.ReferenceIdeal.Model

open Cert.ReferenceIdeal Cert.ReferenceIdeal.Gen Idealize.ShloMosaic Idealize.SL.Sem

/-- The look-up of whole rows in a table of `N` rows of 128 numbers, a row number per item and position. -/
def rowLookup (N : Nat) (wf : GatherDims.WF ⟨2, ![N, 128]⟩ S128x1600x1 S128x1600x128 [2] [0] [] [0] [] 2 ![1, 128]) :
    GatherDims ⟨2, ![N, 128]⟩ S128x1600x1 S128x1600x128 where
  offsetDims := [2]
  collapsedSliceDims := [0]
  operandBatchingDims := []
  startIndicesBatchingDims := []
  startIndexMap := [0]
  indexVectorDim := 2
  sliceSizes := ![1, 128]
  wf := wf

variable {α : Type} {N : Nat} (wf : GatherDims.WF ⟨2, ![N, 128]⟩ S128x1600x1 S128x1600x128 [2] [0] [] [0] [] 2 ![1, 128])

/-- The row number that the look-up reads for the item `n` and the position `l`. -/
theorem lookup_place (n : Fin 128) (l : Fin 1600) (d : Fin 128) (h : List.idxOf (0 : Fin 2) (rowLookup N wf).startIndexMap < _) :
    (rowLookup N wf).siIdx (ix3 n l d) ⟨List.idxOf (0 : Fin 2) (rowLookup N wf).startIndexMap, h⟩ = ix3 n l 0 := by
  funext a
  refine Fin.ext ?_
  match a with
  | ⟨0, _⟩ => rfl
  | ⟨1, _⟩ => rfl
  | ⟨2, _⟩ => rfl

/-- A look-up whose row number is a row of the table gives that row. -/
theorem lookup_row (T : (⟨2, ![N, 128]⟩ : Shape).Idx → α) (k : IVec S128x1600x1 32) (n : Fin 128) (l : Fin 1600) (d : Fin 128) (r : Fin N)
    (hN : N < 2 ^ 31) (hk : k (ix3 n l 0) = BitVec.ofNat 32 r.val) : Host.gather (rowLookup N wf) T k (ix3 n l d) = T (ix2 r d) := by
  have hr := r.isLt
  unfold Host.gather
  refine congrArg T (funext fun a => Fin.ext ?_)
  match a with
  | ⟨0, _⟩ =>
    show (rowLookup N wf).start (ix3 n l d) k 0 + (rowLookup N wf).batchCoord (ix3 n l d) 0 + (rowLookup N wf).offCoord (ix3 n l d) 0 = r.val
    rw [GatherDims.batchCoord_eq_zero _ _ _ List.not_mem_nil,
      GatherDims.offCoord_eq_zero _ _ _ fun h => ((GatherDims.mem_sKept _ _).1 h).1 (List.mem_singleton.2 rfl), Nat.add_zero]
    unfold GatherDims.start
    rw [dif_pos (show (0 : Fin 2) ∈ (rowLookup N wf).startIndexMap from List.mem_singleton.2 rfl), lookup_place, hk,
      StableHlo.Predicate.toInt_ofNat_small _ (by omega)]
    show min ((r.val : Int)).toNat (N - 1) = r.val
    omega
  | ⟨1, _⟩ =>
    have hno : (1 : Fin 2) ∉ (rowLookup N wf).startIndexMap := fun h => absurd (List.mem_singleton.1 h) (show (1 : Fin 2) ≠ 0 by decide)
    have hno' : (1 : Fin 2) ∉ (rowLookup N wf).collapsedSliceDims := fun h => absurd (List.mem_singleton.1 h) (show (1 : Fin 2) ≠ 0 by decide)
    show (rowLookup N wf).start (ix3 n l d) k 1 + (rowLookup N wf).batchCoord (ix3 n l d) 1 + (rowLookup N wf).offCoord (ix3 n l d) 1 = d.val
    rw [GatherDims.batchCoord_eq_zero _ _ _ List.not_mem_nil, Nat.add_zero]
    unfold GatherDims.start GatherDims.offCoord
    rw [dif_neg hno, dif_pos ((GatherDims.mem_sKept _ _).2 ⟨hno', List.not_mem_nil⟩), Nat.zero_add]
    rfl

/-- Where every row number lies in the table, the test says so. -/
theorem inside_one (hi : BitVec 32) (k : IVec S128x1600x1 32)
    (h : ∀ n l, IntOp.cmpi .sge (k (ix3 n l 0)) 0#32 = 1#1 ∧ IntOp.cmpi .sle (k (ix3 n l 0)) hi = 1#1) (j : S128x1600.Idx) : inside hi k j = 1#1 := by
  unfold inside
  refine Host.reduce_andi_one _ _ _ _ _ rfl fun i => ?_
  idx_vars i
  obtain rfl : i2 = 0 := Subsingleton.elim _ _
  pointwise [splatI]
  rw [(h i0 i1).1, (h i0 i1).2]
  rfl

/-- The rows of a table at row numbers that lie in it. -/
theorem takeRows_at (hi : BitVec 32) (T : FVec Ideal ⟨2, ![N, 128]⟩ .f32) (k : IVec S128x1600x1 32) (r : Fin 128 → Fin 1600 → Fin N) (hN : N < 2 ^ 31)
    (hk : ∀ n l, k (ix3 n l 0) = BitVec.ofNat 32 (r n l).val)
    (h : ∀ n l, IntOp.cmpi .sge (k (ix3 n l 0)) 0#32 = 1#1 ∧ IntOp.cmpi .sle (k (ix3 n l 0)) hi = 1#1)
    (n : Fin 128) (l : Fin 1600) (d : Fin 128) : takeRows (rowLookup N wf) hi T k (ix3 n l d) = T (ix2 (r n l) d) := by
  unfold takeRows
  rw [show inside hi k = fun _ => 1#1 from funext fun j => inside_one hi k h j]
  exact lookup_row wf T k n l d (r n l) hN (hk n l)

end Cert.ReferenceIdeal.Model

end
-- ==== Proof.Precondition.lean ====
/- What the claim's precondition says of the items: every number is finite, and row 1 counts the positions. -/
module

public import proofs.«01_k».proof.Proof.Gen.Pre_inputs_in_range
public import proofs.«01_k».proof.Proof.Spec
public import Idealize.ShloMosaic.Lib.Routing.Ops

@[expose] public section

set_option maxRecDepth 16384

noncomputable section

namespace Cert.Range

open Cert.Pre_inputs_in_range Idealize.ShloMosaic

/-- The items' array. -/
abbrev Items : Type := FVec Ideal S128x8x1600 .f32

/-- Every number of the items is finite. -/
def Finite (X : Items) : Prop := ∀ i, (X i : EReal) ≠ ⊤ ∧ (X i : EReal) ≠ ⊥

/-- Row 1 of every item counts the positions. -/
def Counts (X : Items) : Prop := ∀ (n : Fin 128) (l : Fin 1600), (X (ix3 n 1 l) : EReal) = ((l.val : ℝ) : EReal)

/-- The word of the infinity. -/
theorem top_word : Ideal.ofBits .f32 0x7F800000#32 = ⊤ := by simp [Ideal.ofBits, Ideal.ieee]

/-- A position's number, read signed. -/
theorem position_int (l : Fin 1600) : (BitVec.ofNat 32 l.val).toInt = (l.val : ℤ) := by
  have h := l.isLt
  exact StableHlo.Predicate.toInt_ofNat_small _ (by omega)

variable [Facts] (X : Items) (G : FVec Ideal S2x128 .f32) (P : FVec Ideal S1600x128 .f32) (w b : FVec Ideal S6x6 .f32) (W : FVec Ideal S37x128 .f32)
  (c : FVec Ideal S128 .f32)

/-- Where the first array of the precondition is all ones, every number is finite. -/
theorem finite (h : ∀ i, (fn X G P w b W c).1 i = 1#1) : Finite X := by
  intro i
  have h := h i
  idx_vars i
  pointwise [fn] at h
  rw [top_word] at h
  have h : max (X (ix3 i0 i1 i2) : EReal) (-X (ix3 i0 i1 i2)) < ⊤ := by
    by_contra hn
    rw [show FloatOps.absf (X (ix3 i0 i1 i2)) = max (X (ix3 i0 i1 i2) : EReal) (-X (ix3 i0 i1 i2)) from rfl, decide_eq_false hn] at h
    exact absurd h (by decide)
  refine ⟨(lt_of_le_of_lt (le_max_left _ _) h).ne, fun e => ?_⟩
  have h := lt_of_le_of_lt (le_max_right _ _) h
  rw [e] at h
  exact absurd h (by simp)

/-- Where the second array of the precondition is all ones, row 1 counts the positions. -/
theorem counts (h : ∀ i, (fn X G P w b W c).2 i = 1#1) : Counts X := by
  intro n l
  have h := h (ix2 n l)
  pointwise [fn] at h
  rw [show (FloatOps.sitofp FTy.f32 (BitVec.ofNat 32 l.val) : Ideal .f32) = (((BitVec.ofNat 32 l.val).toInt : ℝ) : EReal) from rfl, position_int] at h
  by_contra hn
  rw [decide_eq_false (by exact_mod_cast hn)] at h
  exact absurd h (by decide)

end Cert.Range

end
-- ==== Proof.RefReads.lean ====
/- The reference's stages read at an index, on items whose numbers are finite and whose row 1 counts the positions. -/
module

public import proofs.«01_k».proof.Proof.Lookup
public import proofs.«01_k».proof.Proof.Precondition

@[expose] public section

set_option maxRecDepth 16384

noncomputable section

namespace Cert.ReferenceIdeal.Model

open Cert.ReferenceIdeal Cert.ReferenceIdeal.Gen Idealize.ShloMosaic Idealize.SL.Sem

/-- The word of the negative infinity. -/
theorem bot_word : Ideal.ofBits .f32 0xFF800000#32 = ⊥ := by simp [Ideal.ofBits, Ideal.ieee]

/-- On a finite number `nan_to_num` changes nothing. -/
theorem nanToNum_finite (s : Shape) (h : S_.BroadcastsInDim s (![] : Fin 0 → Fin s.rank)) (v : FVec Ideal s .f32) (i : s.Idx)
    (hv : (v i : EReal) ≠ ⊤ ∧ (v i : EReal) ≠ ⊥) : nanToNum s h v i = v i := by
  have e1 : FloatOps.cmpf .une (v i) (v i) = 0#1 := by
    rw [Ideal.cmpf_def]; simp [Ideal.cmp]
  have e2 : FloatOps.cmpf .oeq (v i) (Ideal.ofBits .f32 0x7F800000#32 : Ideal .f32) = 0#1 := by
    rw [Ideal.cmpf_def, Range.top_word]; simp [Ideal.cmp, hv.1]
  have e3 : FloatOps.cmpf .oeq (v i) (Ideal.ofBits .f32 0xFF800000#32 : Ideal .f32) = 0#1 := by
    rw [Ideal.cmpf_def, bot_word]; simp [Ideal.cmp, hv.2]
  show Scalar.select (FloatOps.cmpf .oeq
      (Scalar.select (FloatOps.cmpf .oeq (Scalar.select (FloatOps.cmpf .une (v i) (v i)) _ (v i)) (Ideal.ofBits .f32 0x7F800000#32 : Ideal .f32)) _
        (Scalar.select (FloatOps.cmpf .une (v i) (v i)) _ (v i))) (Ideal.ofBits .f32 0xFF800000#32 : Ideal .f32)) _
      (Scalar.select (FloatOps.cmpf .oeq (Scalar.select (FloatOps.cmpf .une (v i) (v i)) _ (v i)) (Ideal.ofBits .f32 0x7F800000#32 : Ideal .f32)) _
        (Scalar.select (FloatOps.cmpf .une (v i) (v i)) _ (v i))) = v i
  simp only [e1, e2, e3, ValueIdx.select_zero]

variable (X : FVec Ideal S128x8x1600 .f32) (hX : Range.Finite X)

include hX in
/-- The values are row 0 of the items. -/
theorem values_at (n : Fin 128) (l : Fin 1600) : values X (ix3 n l 0) = X (ix3 n 0 l) := by
  have e : valuesRaw X (ix3 n l 0) = X (ix3 n 0 l) := by
    pointwise [valuesRaw]
  unfold values
  rw [nanToNum_finite _ _ _ _ (by rw [e]; exact hX _), e]

include hX in
/-- The inputs are the last six rows of the items. -/
theorem inputs_at (n : Fin 128) (l : Fin 1600) (f : Fin 6) : inputs X (ix3 n l f) = X (ix3 n ⟨2 + f.val, by omega⟩ l) := by
  unfold inputs
  have e : transpose S128x1600x6 [0, 2, 1] (extractStridedSlice S128x6x1600 ![0, 2, 0] X slices_S128x8x1600_S128x6x1600_0_2_0)
      transposes_S128x6x1600_S128x1600x6_0_2_1 (ix3 n l f) = X (ix3 n ⟨2 + f.val, by omega⟩ l) := by
    pointwise
  rw [nanToNum_finite _ _ _ _ (by rw [e]; exact hX _), e]

/-- A number is equal to itself and not different from itself. -/
theorem self_cmp (x : Ideal .f32) : FloatOps.cmpf .une x x = 0#1 ∧ FloatOps.cmpf .oeq x x = 1#1 := by
  rw [Ideal.cmpf_def, Ideal.cmpf_def]
  simp [Ideal.cmp]

/-- Every value is given. -/
theorem given_at (n : Fin 128) (l : Fin 1600) : given X (ix2 n l) = 1#32 := by
  unfold given
  generalize valuesRaw X = v, values X = u
  pointwise [splatI]
  rw [decide_eq_false (not_not.2 rfl)]
  decide

/-- The positions as integers. -/
theorem positions_at (hX : Range.Counts X) (n : Fin 128) (l : Fin 1600) : positions X (ix2 n l) = BitVec.ofNat 32 l.val := by
  unfold positions
  pointwise
  rw [hX]
  show Ideal.fptosi 32 _ = _
  have h0 : (0 : ℝ) ≤ (l.val : ℝ) := Nat.cast_nonneg _
  have h := l.isLt
  rw [Ideal.fptosi, Ideal.toIntClamped_coe, if_pos h0, Int.floor_natCast, min_eq_right (by norm_num; omega), max_eq_right (by norm_num)]
  exact BitVec.ofInt_natCast ..

end Cert.ReferenceIdeal.Model

end
-- ==== Proof.RefValue.lean ====
/- The reference's result, element by element: the embedding. -/
module

public import proofs.«01_k».proof.Proof.RefReads
public import proofs.«01_k».proof.Proof.Spec
public import proofs.«01_k».proof.Proof.Sums

@[expose] public section

set_option maxRecDepth 16384

noncomputable section

namespace Cert.ReferenceIdeal.Model

open Cert.ReferenceIdeal Cert.ReferenceIdeal.Gen Idealize.ShloMosaic Idealize.SL.Sem

variable (X : FVec Ideal S128x8x1600 .f32) (G : FVec Ideal S2x128 .f32) (P : FVec Ideal S1600x128 .f32) (w b : FVec Ideal S6x6 .f32)
  (W : FVec Ideal S37x128 .f32) (c : FVec Ideal S128 .f32)

/-- The six inputs of an item at a position. -/
def six (n : Fin 128) (l : Fin 1600) (f : Fin 6) : EReal := X (ix3 n ⟨2 + f.val, by omega⟩ l)

variable (n : Fin 128) (l : Fin 1600)

/-- Input, frequency and phase at an index. -/
theorem affine_at (hX : Range.Finite X) (f k : Fin 6) : affine X w b (ix4 n l f k) = Spec.angle (six X n l) w b f k := by
  unfold affine
  have e := inputs_at X hX n l f
  generalize inputs X = u at e
  pointwise
  rw [e]
  rfl

/-- The first feature of an input is its argument. -/
theorem feature_lin (hX : Range.Finite X) (f : Fin 6) :
    features X w b (ix3 n l ⟨6 * f.val, by omega⟩) = Spec.angle (six X n l) w b f 0 := by
  rw [← affine_at X w b n l hX]
  unfold features timeFeatures
  generalize affine X w b = a, values X = v
  pointwise
  rw [dif_pos (by omega), dif_pos (by omega)]
  exact congrArg a (congrArg (ix4 n l f) (Fin.ext (by show 6 * f.val % 6 = 0; omega)))

/-- The other features of an input are the sines of their arguments. -/
theorem feature_sin (hX : Range.Finite X) (f : Fin 6) (k : Fin 5) :
    features X w b (ix3 n l ⟨6 * f.val + (k.val + 1), by omega⟩) = Ideal.sin (Spec.angle (six X n l) w b f k.succ) := by
  rw [← affine_at X w b n l hX]
  unfold features timeFeatures
  generalize affine X w b = a, values X = v
  pointwise
  rw [dif_pos (by omega), dif_neg (by omega)]
  refine congrArg (fun q => Ideal.sin (a (ix4 n l f q))) (Fin.ext ?_)
  show 1 + ((6 * f.val + (k.val + 1)) % 6 - 1) = k.val + 1
  omega

/-- The last feature is the value. -/
theorem feature_value (hX : Range.Finite X) : features X w b (ix3 n l 36) = X (ix3 n 0 l) := by
  rw [← values_at X hX]
  unfold features
  generalize timeFeatures (affine X w b) = a, values X = v
  pointwise

/-- A position is no negative number and a row of the table of positions. -/
theorem position_words : ∀ l : Fin 1600, IntOp.cmpi .slt (BitVec.ofNat 32 l.val) 0#32 = 0#1
    ∧ IntOp.cmpi .sge (BitVec.ofNat 32 l.val) 0#32 = 1#1 ∧ IntOp.cmpi .sle (BitVec.ofNat 32 l.val) 1599#32 = 1#1 := by
  decide +kernel

/-- The position's row. -/
theorem position_row (hX : Range.Counts X) (d : Fin 128) :
    takeRows gather_S1600x128_S128x1600x1_S128x1600x128_2_0_n_n_0_2_1128 1599#32 P (wrapped 1600#32 (positions X)) (ix3 n l d) = P (ix2 l d) := by
  have e : ∀ n l, wrapped 1600#32 (positions X) (ix3 n l 0) = BitVec.ofNat 32 (l : Fin 1600).val := fun n l => by
    unfold wrapped
    have e := positions_at X hX n l
    generalize positions X = p at e
    pointwise [splatI]
    rw [e, (position_words l).1, ValueIdx.select_zero]
  refine takeRows_at (N := 1600) _ _ _ _ (fun _ l => l) (by norm_num) e (fun n l => ?_) n l d
  rw [e]
  exact (position_words l).2

/-- The flag's row. -/
theorem given_row (d : Fin 128) :
    takeRows gather_S2x128_S128x1600x1_S128x1600x128_2_0_n_n_0_2_1128 1#32 G (wrapped 2#32 (given X)) (ix3 n l d) = G (ix2 1 d) := by
  have e : ∀ n l, wrapped 2#32 (given X) (ix3 n l 0) = BitVec.ofNat 32 (1 : Fin 2).val := fun n l => by
    unfold wrapped
    have e := given_at X n l
    generalize given X = p at e
    pointwise [splatI]
    rw [e]
    decide
  refine takeRows_at (N := 2) _ _ _ _ (fun _ _ => 1) (by norm_num) e (fun n l => ?_) n l d
  rw [e]
  decide

/-- The three rows added one after another are their sum added at once. -/
theorem regroup (s c p g : EReal) : s + c + p + g = s + (p + (c + g)) := by
  rw [add_assoc s c p, add_assoc, add_comm c p, add_assoc]

/-- The result is the embedding. -/
theorem result_at (hX : Range.Finite X) (hX' : Range.Counts X) (d : Fin 128) :
    result X G P w b W c (ix3 n l d) = Spec.embedding X G P w b W c n l d := by
  unfold result
  have hp := position_row X P n l hX' d
  have hg := given_row X G n l d
  have h1 := feature_sin X w b n l hX
  have h2 := feature_lin X w b n l hX
  have h3 := feature_value X w b n l hX
  generalize takeRows gather_S1600x128_S128x1600x1_S128x1600x128_2_0_n_n_0_2_1128 1599#32 P (wrapped 1600#32 (positions X)) = u at hp ⊢
  generalize takeRows gather_S2x128_S128x1600x1_S128x1600x128_2_0_n_n_0_2_1128 1#32 G (wrapped 2#32 (given X)) = v at hg ⊢
  generalize features X w b = z at h1 h2 h3 ⊢
  pointwise
  rw [Sums.sum_thirtySeven, hp, hg, h3]
  simp only [h1, h2]
  exact regroup _ _ _ _

/-- The result array is the array of the embeddings. -/
theorem result_eq (hX : Range.Finite X) (hX' : Range.Counts X) :
    result X G P w b W c = fun i : S128x1600x128.Idx => Spec.embedding X G P w b W c (i 0) (i 1) (i 2) := by
  funext i
  have ei : i = ix3 (i 0) (i 1) (i 2) := by
    funext a
    match a with
    | ⟨0, _⟩ => rfl
    | ⟨1, _⟩ => rfl
    | ⟨2, _⟩ => rfl
  rw [ei]
  exact result_at _ _ _ _ _ _ _ _ _ hX hX' _

end Cert.ReferenceIdeal.Model

end
-- ==== Proof.NearReal.lean ====
/- How far the embedding with the approximated sine is from the embedding, over the real numbers. -/
module

public import proofs.«01_k».proof.Proof.Spec
public import proofs.«01_k».proof.Proof.Sums
public import proofs.«01_k».proof.Proof.Quick

@[expose] public section

noncomputable section

namespace Cert.Near

open Idealize.ShloMosaic

/-- A sum of real numbers, read as an extended real. -/
theorem coe_sum {n : Nat} (f : Fin n → ℝ) : ((∑ k, f k : ℝ) : EReal) = ∑ k, (f k : EReal) :=
  map_sum (⟨⟨fun r : ℝ => (r : EReal), rfl⟩, fun a b => EReal.coe_add a b⟩ : ℝ →+ EReal) f Finset.univ

variable (x : Fin 6 → ℝ) (w b : (⟨2, ![6, 6]⟩ : Shape).Idx → ℝ) (W : (⟨2, ![37, 128]⟩ : Shape).Idx → ℝ) (d : Fin 128)

/-- The argument of a feature, a real number. -/
def angle (f k : Fin 6) : ℝ := x f * w (ix2 f k) + b (ix2 f k)

theorem angle_coe (f k : Fin 6) :
    Spec.angle (fun f => (x f : EReal)) (fun i => (w i : EReal)) (fun i => (b i : EReal)) f k = ((angle x w b f k : ℝ) : EReal) := by
  unfold Spec.angle angle
  rw [EReal.coe_add, EReal.coe_mul]

/-- The features with a sine, with any function on the real numbers in its place. -/
def waves (g : ℝ → ℝ) : ℝ := ∑ f : Fin 6, ∑ k : Fin 5, g (angle x w b f k.succ) * W (ix2 ⟨6 * f.val + (k.val + 1), by omega⟩ d)

/-- The other features. -/
def others (y : ℝ) : ℝ := ∑ f : Fin 6, angle x w b f 0 * W (ix2 ⟨6 * f.val, by omega⟩ d) + y * W (ix2 36 d)

/-- An element of the embedding over the real numbers. -/
theorem element_coe (s : EReal → EReal) (g : ℝ → ℝ) (hs : ∀ f k, s (angle x w b f k : ℝ) = ((g (angle x w b f k) : ℝ) : EReal)) (y p c q : ℝ) :
    Spec.elementOf s (fun f => (x f : EReal)) y (fun i => (w i : EReal)) (fun i => (b i : EReal)) (fun i => (W i : EReal)) d p c q
      = ((waves x w b W d g + others x w b W d y + (p + (c + q)) : ℝ) : EReal) := by
  unfold Spec.elementOf Spec.linear waves others
  simp only [angle_coe, hs, EReal.coe_add, coe_sum, EReal.coe_mul]

/-- Where every argument is at most 1024 in size the features' sums differ by at most the bound. -/
theorem waves_near (h : ∀ f k, |angle x w b f k| ≤ 1024) :
    |waves x w b W d Approx.fast - waves x w b W d Real.sin| ≤ 1 / 2 ^ 18 * ∑ k : Fin 37, |W (ix2 k d)| := by
  have e : waves x w b W d Approx.fast - waves x w b W d Real.sin
      = ∑ f : Fin 6, ∑ k : Fin 5, (Approx.fast (angle x w b f k.succ) - Real.sin (angle x w b f k.succ)) * W (ix2 ⟨6 * f.val + (k.val + 1), by omega⟩ d) := by
    unfold waves
    simp only [← Finset.sum_sub_distrib, sub_mul]
  have h1 : |waves x w b W d Approx.fast - waves x w b W d Real.sin|
      ≤ ∑ f : Fin 6, ∑ k : Fin 5, 1 / 2 ^ 18 * |W (ix2 ⟨6 * f.val + (k.val + 1), by omega⟩ d)| := by
    rw [e]
    refine (Finset.abs_sum_le_sum_abs _ _).trans (Finset.sum_le_sum fun f _ => ?_)
    refine (Finset.abs_sum_le_sum_abs _ _).trans (Finset.sum_le_sum fun k _ => ?_)
    rw [abs_mul]
    exact mul_le_mul_of_nonneg_right (Approx.fast_near _ (h f k.succ)) (abs_nonneg _)
  refine h1.trans ?_
  rw [Sums.sum_thirtySeven, mul_add, Finset.mul_sum]
  simp only [Finset.mul_sum]
  exact le_add_of_nonneg_right (by positivity)

/-- The element with the approximated sine and the element itself differ by at most the bound. -/
theorem element_near (h : ∀ f k, |angle x w b f k| ≤ 1024) (y p c q : ℝ) :
    ∃ r t : ℝ,
      Spec.elementOf Approx.quick (fun f => (x f : EReal)) y (fun i => (w i : EReal)) (fun i => (b i : EReal)) (fun i => (W i : EReal)) d p c q = (r : EReal)
      ∧ Spec.element (fun f => (x f : EReal)) y (fun i => (w i : EReal)) (fun i => (b i : EReal)) (fun i => (W i : EReal)) d p c q = (t : EReal)
      ∧ |r - t| ≤ 1 / 2 ^ 18 * ∑ k : Fin 37, |W (ix2 k d)| := by
  refine ⟨_, _, element_coe x w b W d Approx.quick Approx.fast (fun f k => Approx.quick_coe _ (h f k)) y p c q,
    element_coe x w b W d Ideal.sin Real.sin (fun f k => rfl) y p c q, ?_⟩
  rw [show waves x w b W d Approx.fast + others x w b W d y + (p + (c + q)) - (waves x w b W d Real.sin + others x w b W d y + (p + (c + q)))
    = waves x w b W d Approx.fast - waves x w b W d Real.sin by ring]
  exact waves_near x w b W d h

end Cert.Near

end
-- ==== Proof.Bounded.lean ====
/- What the precondition of the bound says of the inputs. -/
module

public import proofs.«01_k».proof.Proof.Gen.Pre_bounded
public import proofs.«01_k».proof.Proof.Precondition

@[expose] public section

set_option maxRecDepth 16384

noncomputable section

namespace Cert.Bounded

open Cert.Pre_bounded Idealize.ShloMosaic

/-- The word of the bound on the frequencies and the phases. -/
theorem size_word : Ideal.ofBits .f32 0x44000000#32 = ((512 : ℝ) : EReal) := by
  simp [Ideal.ofBits, Ideal.ieee]
  rw [← EReal.coe_mul]
  norm_num

/-- A number of finite size is finite. -/
theorem real_of_lt {a : Ideal .f32} (h : BitVec.ofBool (decide ((FloatOps.absf a : Ideal .f32) < (⊤ : EReal))) = 1#1) : ∃ r : ℝ, (a : EReal) = r := by
  have h : max (a : EReal) (-a) < ⊤ := by
    by_contra hn
    rw [show (FloatOps.absf a : Ideal .f32) = max (a : EReal) (-a) from rfl, decide_eq_false hn] at h
    exact absurd h (by decide)
  refine ⟨(a : EReal).toReal, (EReal.coe_toReal (lt_of_le_of_lt (le_max_left _ _) h).ne fun e => ?_).symm⟩
  have h := lt_of_le_of_lt (le_max_right _ _) h
  rw [e] at h
  exact absurd h (by simp)

/-- A number of at most the size `s` is a real number of at most that size. -/
theorem real_of_le {a : Ideal .f32} {s : ℝ} (h : BitVec.ofBool (decide ((FloatOps.absf a : Ideal .f32) ≤ (s : EReal))) = 1#1) :
    ∃ r : ℝ, (a : EReal) = r ∧ |r| ≤ s := by
  have h : max (a : EReal) (-a) ≤ s := by
    by_contra hn
    rw [show (FloatOps.absf a : Ideal .f32) = max (a : EReal) (-a) from rfl, decide_eq_false hn] at h
    exact absurd h (by decide)
  have h1 := (le_max_left _ _).trans h
  have h2 := (le_max_right _ _).trans h
  have ht : (a : EReal) ≠ ⊤ := (lt_of_le_of_lt h1 (EReal.coe_lt_top s)).ne
  have hb : (a : EReal) ≠ ⊥ := fun e => by
    rw [e] at h2
    exact absurd h2 (by simp)
  have e := EReal.coe_toReal ht hb
  refine ⟨(a : EReal).toReal, e.symm, abs_le.2 ?_⟩
  rw [← e] at h1 h2
  rw [← EReal.coe_neg] at h2
  have h1 := EReal.coe_le_coe_iff.1 h1
  have h2 := EReal.coe_le_coe_iff.1 h2
  exact ⟨by linarith, h1⟩

/-- What the precondition says: the numbers are real, row 1 counts the positions, the six inputs are at most one in size,
    the frequencies and the phases at most 512. -/
structure Holds (X : FVec Ideal S128x8x1600 .f32) (G : FVec Ideal S2x128 .f32) (P : FVec Ideal S1600x128 .f32) (w b : FVec Ideal S6x6 .f32)
    (W : FVec Ideal S37x128 .f32) (c : FVec Ideal S128 .f32) : Prop where
  item : ∀ i, ∃ r : ℝ, (X i : EReal) = r
  counts : Range.Counts X
  input : ∀ n f l, ∃ r : ℝ, (X (ix3 n ⟨2 + (f : Fin 6).val, by omega⟩ l) : EReal) = r ∧ |r| ≤ 1
  frequency : ∀ i, ∃ r : ℝ, (w i : EReal) = r ∧ |r| ≤ 512
  phase : ∀ i, ∃ r : ℝ, (b i : EReal) = r ∧ |r| ≤ 512
  flag : ∀ i, ∃ r : ℝ, (G i : EReal) = r
  position : ∀ i, ∃ r : ℝ, (P i : EReal) = r
  weight : ∀ i, ∃ r : ℝ, (W i : EReal) = r
  bias : ∀ i, ∃ r : ℝ, (c i : EReal) = r

variable [Facts] (X : FVec Ideal S128x8x1600 .f32) (G : FVec Ideal S2x128 .f32) (P : FVec Ideal S1600x128 .f32) (w b : FVec Ideal S6x6 .f32)
  (W : FVec Ideal S37x128 .f32) (c : FVec Ideal S128 .f32)

theorem item (h : ∀ i, (fn X G P w b W c).1 i = 1#1) (i) : ∃ r : ℝ, (X i : EReal) = r := by
  have h := h i
  idx_vars i
  pointwise [fn, fn_part1] at h
  rw [Range.top_word] at h
  exact real_of_lt h

theorem counts (h : ∀ i, (fn X G P w b W c).2.1 i = 1#1) : Range.Counts X := by
  intro n l
  have h := h (ix2 n l)
  pointwise [fn, fn_part1] at h
  rw [show (FloatOps.sitofp FTy.f32 (BitVec.ofNat 32 l.val) : Ideal .f32) = (((BitVec.ofNat 32 l.val).toInt : ℝ) : EReal) from rfl, Range.position_int] at h
  by_contra hn
  rw [decide_eq_false (by exact_mod_cast hn)] at h
  exact absurd h (by decide)

theorem input (h : ∀ i, (fn X G P w b W c).2.2.1 i = 1#1) (n : Fin 128) (f : Fin 6) (l : Fin 1600) :
    ∃ r : ℝ, (X (ix3 n ⟨2 + f.val, by omega⟩ l) : EReal) = r ∧ |r| ≤ 1 := by
  have h := h (ix3 n f l)
  pointwise [fn, fn_part1] at h
  exact real_of_le (s := 1) h

theorem frequency (h : ∀ i, (fn X G P w b W c).2.2.2.1 i = 1#1) (i) : ∃ r : ℝ, (w i : EReal) = r ∧ |r| ≤ 512 := by
  have h := h i
  idx_vars i
  pointwise [fn, fn_part1] at h
  rw [size_word] at h
  exact real_of_le h

theorem phase (h : ∀ i, (fn X G P w b W c).2.2.2.2.1 i = 1#1) (i) : ∃ r : ℝ, (b i : EReal) = r ∧ |r| ≤ 512 := by
  have h := h i
  idx_vars i
  pointwise [fn, fn_part1] at h
  rw [size_word] at h
  exact real_of_le h

theorem flag (h : ∀ i, (fn X G P w b W c).2.2.2.2.2.1 i = 1#1) (i) : ∃ r : ℝ, (G i : EReal) = r := by
  have h := h i
  idx_vars i
  pointwise [fn, fn_part1] at h
  rw [Range.top_word] at h
  exact real_of_lt h

theorem position (h : ∀ i, (fn X G P w b W c).2.2.2.2.2.2.1 i = 1#1) (i) : ∃ r : ℝ, (P i : EReal) = r := by
  have h := h i
  idx_vars i
  pointwise [fn, fn_part1] at h
  rw [Range.top_word] at h
  exact real_of_lt h

theorem weight (h : ∀ i, (fn X G P w b W c).2.2.2.2.2.2.2.1 i = 1#1) (i) : ∃ r : ℝ, (W i : EReal) = r := by
  have h := h i
  idx_vars i
  pointwise [fn, fn_part1] at h
  rw [Range.top_word] at h
  exact real_of_lt h

theorem bias (h : ∀ i, (fn X G P w b W c).2.2.2.2.2.2.2.2 i = 1#1) (i) : ∃ r : ℝ, (c i : EReal) = r := by
  have h := h i
  idx_vars i
  pointwise [fn, fn_part1] at h
  rw [Range.top_word] at h
  exact real_of_lt h

end Cert.Bounded

end
-- ==== Proof.NearValue.lean ====
/- How far the embedding with the approximated sine is from the embedding, over the real numbers, and what the claim's
   postcondition says of it. -/
module

public import proofs.«01_k».proof.Proof.Gen.Post_near
public import proofs.«01_k».proof.Proof.RefValue
public import proofs.«01_k».proof.Proof.NearReal
public import proofs.«01_k».proof.Proof.Bounded

@[expose] public section

set_option maxRecDepth 16384

noncomputable section

namespace Cert.Near

open Idealize.ShloMosaic Cert.ReferenceIdeal Cert.ReferenceIdeal.Gen Cert.ReferenceIdeal.Model

variable (X : FVec Ideal S128x8x1600 .f32) (G : FVec Ideal S2x128 .f32) (P : FVec Ideal S1600x128 .f32) (w b : FVec Ideal S6x6 .f32) (W : FVec Ideal S37x128 .f32)
  (c : FVec Ideal S128 .f32) (o : FVec Ideal S128x1600x128 .f32)

/-- The postcondition compares the distance from the reference's result with the bound. -/
theorem post_eq :
    Cert.Post_near.fn X G P w b W c o = Cert.Post_near.fn_part2 (Host.absf (subf o (result X G P w b W c)))
      (Host.reduceAdd (Host.absf W) (constant Cert.Post_near.S_ .f32 0x00000000#32) Cert.Post_near.Facts.reducesTo_S37x128_S128_d0 Cert.Post_near.Facts.h_S_) := rfl

/-- The word of the bound's factor. -/
theorem bound_word : Ideal.ofBits .f32 0x36800000#32 = ((1 / 2 ^ 18 : ℝ) : EReal) := by
  simp [Ideal.ofBits, Ideal.ieee]
  rw [← EReal.coe_mul]
  norm_num

/-- The size of a real number. -/
theorem size_coe (r : ℝ) : (FloatOps.absf (show Ideal .f32 from (r : EReal)) : Ideal .f32) = ((|r| : ℝ) : EReal) := by
  show max (r : EReal) (-(r : EReal)) = _
  rw [← EReal.coe_neg, abs, EReal.coe_strictMono.monotone.map_max]

/-- The postcondition at an element, where the two numbers are real and their difference is at most the bound. -/
theorem post_at (n : Fin 128) (l : Fin 1600) (d : Fin 128) (r t : ℝ) (v : (⟨2, ![37, 128]⟩ : Shape).Idx → ℝ) (ho : (o (ix3 n l d) : EReal) = r)
    (he : (result X G P w b W c (ix3 n l d) : EReal) = t) (hW : ∀ i, (W i : EReal) = v i) (h : |r - t| ≤ 1 / 2 ^ 18 * ∑ k : Fin 37, |v (ix2 k d)|) :
    Cert.Post_near.fn X G P w b W c o (ix3 n l d) = 1#1 := by
  rw [post_eq]
  generalize result X G P w b W c = e at he
  pointwise [Cert.Post_near.fn_part2]
  rw [ho, he, bound_word, ← EReal.coe_sub]
  have hs : (∑ k : Fin 37, (FloatOps.absf (W (ix2 k d)) : Ideal .f32) : EReal) = ((∑ k : Fin 37, |v (ix2 k d)| : ℝ) : EReal) := by
    rw [coe_sum]
    exact Finset.sum_congr rfl fun k _ => (congrArg FloatOps.absf (hW (ix2 k d))).trans (size_coe _)
  have hb : (FloatOps.absf (show Ideal .f32 from ((r - t : ℝ) : EReal)) : Ideal .f32)
      ≤ ((1 / 2 ^ 18 : ℝ) : EReal) * ∑ k : Fin 37, (FloatOps.absf (W (ix2 k d)) : Ideal .f32) := by
    rw [hs, size_coe, ← EReal.coe_mul]
    exact EReal.coe_le_coe_iff.2 h
  exact congrArg BitVec.ofBool (decide_eq_true hb)

end Cert.Near

end
-- ==== Proof.NearClaim.lean ====
/- Where the precondition holds, the embedding with the approximated sine satisfies the postcondition. -/
module

public import proofs.«01_k».proof.Proof.NearValue

@[expose] public section

set_option maxRecDepth 16384

noncomputable section

namespace Cert.Near

open Idealize.ShloMosaic Cert.ReferenceIdeal Cert.ReferenceIdeal.Gen Cert.ReferenceIdeal.Model

variable (X : FVec Ideal S128x8x1600 .f32) (G : FVec Ideal S2x128 .f32) (P : FVec Ideal S1600x128 .f32) (w b : FVec Ideal S6x6 .f32) (W : FVec Ideal S37x128 .f32)
  (c : FVec Ideal S128 .f32)

/-- Where the precondition holds, the two embeddings at an element are real numbers and differ by at most the bound. -/
theorem embedding_near (h : Bounded.Holds X G P w b W c) (n : Fin 128) (l : Fin 1600) (d : Fin 128) :
    ∃ (r t : ℝ) (z : (⟨2, ![37, 128]⟩ : Shape).Idx → ℝ), Spec.embeddingOf Approx.quick X G P w b W c n l d = (r : EReal)
      ∧ Spec.embedding X G P w b W c n l d = (t : EReal) ∧ (∀ i, (W i : EReal) = z i) ∧ |r - t| ≤ 1 / 2 ^ 18 * ∑ k : Fin 37, |z (ix2 k d)| := by
  choose x hx hx' using fun f => h.input n f l
  choose u hu hu' using h.frequency
  choose v hv hv' using h.phase
  choose z hz using h.weight
  obtain ⟨y, hy⟩ := h.item (ix3 n 0 l)
  obtain ⟨p, hp⟩ := h.position (ix2 l d)
  obtain ⟨k, hk⟩ := h.bias (ix1 d)
  obtain ⟨q, hq⟩ := h.flag (ix2 1 d)
  have ha (f k : Fin 6) : |angle x u v f k| ≤ 1024 := by
    have h1 : |x f * u (ix2 f k)| ≤ 1 * 512 := by
      rw [abs_mul]
      exact mul_le_mul (hx' f) (hu' _) (abs_nonneg _) (by norm_num)
    unfold angle
    refine (abs_add_le _ _).trans ?_
    linarith [hv' (ix2 f k)]
  obtain ⟨r, t, hr, ht, hrt⟩ := element_near x u v z d ha y p k q
  have ex : (fun f : Fin 6 => (X (ix3 n ⟨2 + f.val, by omega⟩ l) : EReal)) = fun f => (x f : EReal) := funext hx
  have eu : (w : Spec.Mat 6 6) = fun i => (u i : EReal) := funext hu
  have ev : (b : Spec.Mat 6 6) = fun i => (v i : EReal) := funext hv
  have ez : (W : Spec.Mat 37 128) = fun i => (z i : EReal) := funext hz
  refine ⟨r, t, z, ?_, ?_, hz, hrt⟩
  · unfold Spec.embeddingOf
    rw [ex, eu, ev, ez, hy, hp, hk, hq]
    exact hr
  · unfold Spec.embedding
    rw [ex, eu, ev, ez, hy, hp, hk, hq]
    exact ht

/-- The embedding with the approximated sine satisfies the postcondition. -/
theorem post (h : Bounded.Holds X G P w b W c) :
    Cert.Post_near.fn X G P w b W c (fun i : S128x1600x128.Idx => Spec.embeddingOf Approx.quick X G P w b W c (i 0) (i 1) (i 2)) = fun _ => 1#1 := by
  have hf : Range.Finite X := fun i => by
    obtain ⟨r, hr⟩ := h.item i
    rw [hr]
    exact ⟨EReal.coe_ne_top r, EReal.coe_ne_bot r⟩
  funext i
  have ei : i = ix3 (i 0) (i 1) (i 2) := by
    funext a
    match a with
    | ⟨0, _⟩ => rfl
    | ⟨1, _⟩ => rfl
    | ⟨2, _⟩ => rfl
  rw [ei]
  obtain ⟨r, t, z, hr, ht, hz, hrt⟩ := embedding_near X G P w b W c h (i 0) (i 1) (i 2)
  exact post_at X G P w b W c _ _ _ _ r t z hr ((result_at X G P w b W c _ _ hf h.counts _).trans ht) hz hrt

end Cert.Near

end
-- ==== Proof.RefRun.lean ====
/- The reference program's run: its operations in order, and what they leave in the result's array, as the stages of
   RefStages.lean. -/
module

public import proofs.«01_k».proof.Proof.Gen.ReferenceIdeal
public import proofs.«01_k».proof.Proof.RefStages
public import Idealize.ShloMosaic.Lib.StableHlo.Run

@[expose] public section

noncomputable section

namespace Cert.ReferenceIdeal.Model

open Cert.ReferenceIdeal Cert.ReferenceIdeal.Gen Idealize.ShloMosaic Idealize.ShloMosaic.TcCoe Idealize.SL.Sem Idealize.ShloMosaic.StableHlo

variable {F : FTy → Type} [FloatOps F]

/-- The join of the first time feature and the five others. -/
def fn_main_v33 : (⟨S128x1600x6x1, .f32⟩ : BufTy).Contents (Elt F) → (⟨S128x1600x6x5, .f32⟩ : BufTy).Contents (Elt F) → (⟨S128x1600x6x6, .f32⟩ : BufTy).Contents (Elt F) :=
  (fun a b => concatenate S128x1600x6x6 3 [⟨S128x1600x6x1, a⟩, ⟨S128x1600x6x5, b⟩] concatenates_S128x1600x6x1_S128x1600x6x5_S128x1600x6x6_d3)

/-- The join of the time features and the value. -/
def fn_main_v35 : (⟨S128x1600x36, .f32⟩ : BufTy).Contents (Elt F) → (⟨S128x1600x1, .f32⟩ : BufTy).Contents (Elt F) → (⟨S128x1600x37, .f32⟩ : BufTy).Contents (Elt F) :=
  (fun a b => concatenate S128x1600x37 2 [⟨S128x1600x36, a⟩, ⟨S128x1600x1, b⟩] concatenates_S128x1600x36_S128x1600x1_S128x1600x37_d2)

/-- The program's operations, in order. -/
abbrev ops : List (HloOp τ sig (Elt F)) :=
  [ unary main_arg0 main_v0 ((extractStridedSlice S128x1x1600 ![0, 0, 0] · slices_S128x8x1600_S128x1x1600_0_0_0) : (⟨S128x8x1600, .f32⟩ : BufTy).Contents (Elt F) → (⟨S128x1x1600, .f32⟩ : BufTy).Contents (Elt F)),
    reshape main_v0 main_v1 (rfl : (.f32 : EltTy) = .f32) shapeCasts_S128x1x1600_S128x1600,
    unary main_v1 main_v2 (broadcastInDim S128x1600x1 ![0, 1] bcast_S128x1600_S128x1600x1_0_1 : (⟨S128x1600, .f32⟩ : BufTy).Contents (Elt F) → (⟨S128x1600x1, .f32⟩ : BufTy).Contents (Elt F)),
    unary main_arg0 main_v3 ((extractStridedSlice S128x1x1600 ![0, 1, 0] · slices_S128x8x1600_S128x1x1600_0_1_0) : (⟨S128x8x1600, .f32⟩ : BufTy).Contents (Elt F) → (⟨S128x1x1600, .f32⟩ : BufTy).Contents (Elt F)),
    reshape main_v3 main_v4 (rfl : (.f32 : EltTy) = .f32) shapeCasts_S128x1x1600_S128x1600,
    unary main_arg0 main_v5 ((extractStridedSlice S128x6x1600 ![0, 2, 0] · slices_S128x8x1600_S128x6x1600_0_2_0) : (⟨S128x8x1600, .f32⟩ : BufTy).Contents (Elt F) → (⟨S128x6x1600, .f32⟩ : BufTy).Contents (Elt F)),
    unary main_v5 main_v6 ((transpose S128x1600x6 [0, 2, 1] · transposes_S128x6x1600_S128x1600x6_0_2_1) : (⟨S128x6x1600, .f32⟩ : BufTy).Contents (Elt F) → (⟨S128x1600x6, .f32⟩ : BufTy).Contents (Elt F)),
    binary main_v2 main_v2 main_v7 (cmpf .une : (⟨S128x1600x1, .f32⟩ : BufTy).Contents (Elt F) → (⟨S128x1600x1, .f32⟩ : BufTy).Contents (Elt F) → (⟨S128x1600x1, .i1⟩ : BufTy).Contents (Elt F)),
    reshape main_v7 main_v8 (rfl : (.i1 : EltTy) = .i1) shapeCasts_S128x1600x1_S128x1600,
    TRef.binary (TRef.of (T := ⟨S128x1600x1, .f32⟩) main_v2) (TRef.of (T := ⟨S128x1600x1, .f32⟩) main_v2) (TRef.of (T := ⟨S128x1600x1, .i1⟩) main_call0_v0) (cmpf .une),
    TRef.nullary (TRef.of (T := ⟨S_, .f32⟩) main_call0_cst) (constant S_ .f32 0x00000000#32),
    TRef.unary (TRef.of (T := ⟨S_, .f32⟩) main_call0_cst) (TRef.of (T := ⟨S128x1600x1, .f32⟩) main_call0_call0_v0) (broadcastInDim S128x1600x1 ![] bcast_S_S128x1600x1),
    TRef.ternary (TRef.of (T := ⟨S128x1600x1, .i1⟩) main_call0_v0) (TRef.of (T := ⟨S128x1600x1, .f32⟩) main_call0_call0_v0) (TRef.of (T := ⟨S128x1600x1, .f32⟩) main_v2) (TRef.of (T := ⟨S128x1600x1, .f32⟩) main_call0_v1) select,
    TRef.nullary (TRef.of (T := ⟨S_, .f32⟩) main_call0_cst_0) (constant S_ .f32 0x7F800000#32),
    TRef.unary (TRef.of (T := ⟨S_, .f32⟩) main_call0_cst_0) (TRef.of (T := ⟨S128x1600x1, .f32⟩) main_call0_v2) (broadcastInDim S128x1600x1 ![] bcast_S_S128x1600x1),
    TRef.binary (TRef.of (T := ⟨S128x1600x1, .f32⟩) main_call0_v1) (TRef.of (T := ⟨S128x1600x1, .f32⟩) main_call0_v2) (TRef.of (T := ⟨S128x1600x1, .i1⟩) main_call0_v3) (cmpf .oeq),
    TRef.nullary (TRef.of (T := ⟨S_, .f32⟩) main_call0_cst_1) (constant S_ .f32 0x7F7FFFFF#32),
    TRef.unary (TRef.of (T := ⟨S_, .f32⟩) main_call0_cst_1) (TRef.of (T := ⟨S128x1600x1, .f32⟩) main_call0_call1_v0) (broadcastInDim S128x1600x1 ![] bcast_S_S128x1600x1),
    TRef.ternary (TRef.of (T := ⟨S128x1600x1, .i1⟩) main_call0_v3) (TRef.of (T := ⟨S128x1600x1, .f32⟩) main_call0_call1_v0) (TRef.of (T := ⟨S128x1600x1, .f32⟩) main_call0_v1) (TRef.of (T := ⟨S128x1600x1, .f32⟩) main_call0_v4) select,
    TRef.nullary (TRef.of (T := ⟨S_, .f32⟩) main_call0_cst_2) (constant S_ .f32 0xFF800000#32),
    TRef.unary (TRef.of (T := ⟨S_, .f32⟩) main_call0_cst_2) (TRef.of (T := ⟨S128x1600x1, .f32⟩) main_call0_v5) (broadcastInDim S128x1600x1 ![] bcast_S_S128x1600x1),
    TRef.binary (TRef.of (T := ⟨S128x1600x1, .f32⟩) main_call0_v4) (TRef.of (T := ⟨S128x1600x1, .f32⟩) main_call0_v5) (TRef.of (T := ⟨S128x1600x1, .i1⟩) main_call0_v6) (cmpf .oeq),
    TRef.nullary (TRef.of (T := ⟨S_, .f32⟩) main_call0_cst_3) (constant S_ .f32 0xFF7FFFFF#32),
    TRef.unary (TRef.of (T := ⟨S_, .f32⟩) main_call0_cst_3) (TRef.of (T := ⟨S128x1600x1, .f32⟩) main_call0_call2_v0) (broadcastInDim S128x1600x1 ![] bcast_S_S128x1600x1),
    TRef.ternary (TRef.of (T := ⟨S128x1600x1, .i1⟩) main_call0_v6) (TRef.of (T := ⟨S128x1600x1, .f32⟩) main_call0_call2_v0) (TRef.of (T := ⟨S128x1600x1, .f32⟩) main_call0_v4) (TRef.of (T := ⟨S128x1600x1, .f32⟩) main_v9) select,
    nullary main_c (constantI S_ 32 1#32),
    unary main_c main_v10 (broadcastInDim S128x1600 ![] bcast_S_S128x1600 : (⟨S_, .i32⟩ : BufTy).Contents (Elt F) → (⟨S128x1600, .i32⟩ : BufTy).Contents (Elt F)),
    unary main_v8 main_v11 (noti : (⟨S128x1600, .i1⟩ : BufTy).Contents (Elt F) → (⟨S128x1600, .i1⟩ : BufTy).Contents (Elt F)),
    unary main_v11 main_v12 ((extui 32 · natLt_1_32) : (⟨S128x1600, .i1⟩ : BufTy).Contents (Elt F) → (⟨S128x1600, .i32⟩ : BufTy).Contents (Elt F)),
    binary main_v10 main_v12 main_v13 (muli : (⟨S128x1600, .i32⟩ : BufTy).Contents (Elt F) → (⟨S128x1600, .i32⟩ : BufTy).Contents (Elt F) → (⟨S128x1600, .i32⟩ : BufTy).Contents (Elt F)),
    binary main_v9 main_v9 main_v14 (cmpf .oeq : (⟨S128x1600x1, .f32⟩ : BufTy).Contents (Elt F) → (⟨S128x1600x1, .f32⟩ : BufTy).Contents (Elt F) → (⟨S128x1600x1, .i1⟩ : BufTy).Contents (Elt F)),
    reshape main_v14 main_v15 (rfl : (.i1 : EltTy) = .i1) shapeCasts_S128x1600x1_S128x1600,
    unary main_v15 main_v16 ((extui 32 · natLt_1_32) : (⟨S128x1600, .i1⟩ : BufTy).Contents (Elt F) → (⟨S128x1600, .i32⟩ : BufTy).Contents (Elt F)),
    binary main_v13 main_v16 main_v17 (muli : (⟨S128x1600, .i32⟩ : BufTy).Contents (Elt F) → (⟨S128x1600, .i32⟩ : BufTy).Contents (Elt F) → (⟨S128x1600, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S128x1600, .i32⟩) main_call1_v0) (broadcastInDim S128x1600 ![] bcast_S_S128x1600),
    TRef.binary (TRef.of (T := ⟨S128x1600, .i32⟩) main_v17) (TRef.of (T := ⟨S128x1600, .i32⟩) main_call1_v0) (TRef.of (T := ⟨S128x1600, .i1⟩) main_call1_v1) (cmpi .slt),
    TRef.nullary (TRef.of (T := ⟨S_, .i32⟩) main_call1_c_0) (constantI S_ 32 2#32),
    TRef.unary (TRef.of (T := ⟨S_, .i32⟩) main_call1_c_0) (TRef.of (T := ⟨S128x1600, .i32⟩) main_call1_v2) (broadcastInDim S128x1600 ![] bcast_S_S128x1600),
    TRef.binary (TRef.of (T := ⟨S128x1600, .i32⟩) main_v17) (TRef.of (T := ⟨S128x1600, .i32⟩) main_call1_v2) (TRef.of (T := ⟨S128x1600, .i32⟩) main_call1_v3) addi,
    TRef.ternary (TRef.of (T := ⟨S128x1600, .i1⟩) main_call1_v1) (TRef.of (T := ⟨S128x1600, .i32⟩) main_call1_v3) (TRef.of (T := ⟨S128x1600, .i32⟩) main_v17) (TRef.of (T := ⟨S128x1600, .i32⟩) main_call1_v4) select,
    TRef.unary (TRef.of (T := ⟨S128x1600, .i32⟩) main_call1_v4) (TRef.of (T := ⟨S128x1600x1, .i32⟩) main_call1_v5) (broadcastInDim S128x1600x1 ![0, 1] bcast_S128x1600_S128x1600x1_0_1),
    TRef.nullary (TRef.of (T := ⟨S1, .i32⟩) main_call1_c_1) (constantI S1 32 1#32),
    TRef.nullary (TRef.of (T := ⟨S_, .i32⟩) main_call1_c_2) (constantI S_ 32 0#32),
    TRef.unary (TRef.of (T := ⟨S_, .i32⟩) main_call1_c_2) (TRef.of (T := ⟨S128x1600x1, .i32⟩) main_call1_v6) (broadcastInDim S128x1600x1 ![] bcast_S_S128x1600x1),
    TRef.binary (TRef.of (T := ⟨S128x1600x1, .i32⟩) main_call1_v5) (TRef.of (T := ⟨S128x1600x1, .i32⟩) main_call1_v6) (TRef.of (T := ⟨S128x1600x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S128x1600x1, .i32⟩) main_call1_v9) (broadcastInDim S128x1600x1 ![0, 1, 2] bcast_S1x1x1_S128x1600x1_0_1_2),
    TRef.binary (TRef.of (T := ⟨S128x1600x1, .i32⟩) main_call1_v5) (TRef.of (T := ⟨S128x1600x1, .i32⟩) main_call1_v9) (TRef.of (T := ⟨S128x1600x1, .i1⟩) main_call1_v10) (cmpi .sle),
    TRef.binary (TRef.of (T := ⟨S128x1600x1, .i1⟩) main_call1_v7) (TRef.of (T := ⟨S128x1600x1, .i1⟩) main_call1_v10) (TRef.of (T := ⟨S128x1600x1, .i1⟩) main_call1_v11) andi,
    TRef.nullary (TRef.of (T := ⟨S_, .i1⟩) main_call1_c_3) (constantI S_ 1 1#1),
    TRef.binary (TRef.of (T := ⟨S128x1600x1, .i1⟩) main_call1_v11) (TRef.of (T := ⟨S_, .i1⟩) main_call1_c_3) (TRef.of (T := ⟨S128x1600, .i1⟩) main_call1_v12) (fun x v => Host.reduce IntOp.andi x v reducesTo_S128x1600x1_S128x1600_d2 h_S_),
    TRef.binary (TRef.of (T := ⟨S2x128, .f32⟩) main_arg1) (TRef.of (T := ⟨S128x1600x1, .i32⟩) main_call1_v5) (TRef.of (T := ⟨S128x1600x128, .f32⟩) main_call1_v13) (fun x i => Host.gather gather_S2x128_S128x1600x1_S128x1600x128_2_0_n_n_0_2_1128 x i),
    TRef.unary (TRef.of (T := ⟨S128x1600, .i1⟩) main_call1_v12) (TRef.of (T := ⟨S128x1600x128, .i1⟩) main_call1_v14) (broadcastInDim S128x1600x128 ![0, 1] bcast_S128x1600_S128x1600x128_0_1),
    TRef.nullary (TRef.of (T := ⟨S_, .f32⟩) main_call1_cst) (constant S_ .f32 0x7FC00000#32),
    TRef.unary (TRef.of (T := ⟨S_, .f32⟩) main_call1_cst) (TRef.of (T := ⟨S128x1600x128, .f32⟩) main_call1_v15) (broadcastInDim S128x1600x128 ![] bcast_S_S128x1600x128),
    TRef.ternary (TRef.of (T := ⟨S128x1600x128, .i1⟩) main_call1_v14) (TRef.of (T := ⟨S128x1600x128, .f32⟩) main_call1_v13) (TRef.of (T := ⟨S128x1600x128, .f32⟩) main_call1_v15) (TRef.of (T := ⟨S128x1600x128, .f32⟩) main_v18) select,
    unary main_v4 main_v19 (fptosi 32 : (⟨S128x1600, .f32⟩ : BufTy).Contents (Elt F) → (⟨S128x1600, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S128x1600, .i32⟩) main_call2_v0) (broadcastInDim S128x1600 ![] bcast_S_S128x1600),
    TRef.binary (TRef.of (T := ⟨S128x1600, .i32⟩) main_v19) (TRef.of (T := ⟨S128x1600, .i32⟩) main_call2_v0) (TRef.of (T := ⟨S128x1600, .i1⟩) main_call2_v1) (cmpi .slt),
    TRef.nullary (TRef.of (T := ⟨S_, .i32⟩) main_call2_c_0) (constantI S_ 32 1600#32),
    TRef.unary (TRef.of (T := ⟨S_, .i32⟩) main_call2_c_0) (TRef.of (T := ⟨S128x1600, .i32⟩) main_call2_v2) (broadcastInDim S128x1600 ![] bcast_S_S128x1600),
    TRef.binary (TRef.of (T := ⟨S128x1600, .i32⟩) main_v19) (TRef.of (T := ⟨S128x1600, .i32⟩) main_call2_v2) (TRef.of (T := ⟨S128x1600, .i32⟩) main_call2_v3) addi,
    TRef.ternary (TRef.of (T := ⟨S128x1600, .i1⟩) main_call2_v1) (TRef.of (T := ⟨S128x1600, .i32⟩) main_call2_v3) (TRef.of (T := ⟨S128x1600, .i32⟩) main_v19) (TRef.of (T := ⟨S128x1600, .i32⟩) main_call2_v4) select,
    TRef.unary (TRef.of (T := ⟨S128x1600, .i32⟩) main_call2_v4) (TRef.of (T := ⟨S128x1600x1, .i32⟩) main_call2_v5) (broadcastInDim S128x1600x1 ![0, 1] bcast_S128x1600_S128x1600x1_0_1),
    TRef.nullary (TRef.of (T := ⟨S1, .i32⟩) main_call2_c_1) (constantI S1 32 1599#32),
    TRef.nullary (TRef.of (T := ⟨S_, .i32⟩) main_call2_c_2) (constantI S_ 32 0#32),
    TRef.unary (TRef.of (T := ⟨S_, .i32⟩) main_call2_c_2) (TRef.of (T := ⟨S128x1600x1, .i32⟩) main_call2_v6) (broadcastInDim S128x1600x1 ![] bcast_S_S128x1600x1),
    TRef.binary (TRef.of (T := ⟨S128x1600x1, .i32⟩) main_call2_v5) (TRef.of (T := ⟨S128x1600x1, .i32⟩) main_call2_v6) (TRef.of (T := ⟨S128x1600x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S128x1600x1, .i32⟩) main_call2_v9) (broadcastInDim S128x1600x1 ![0, 1, 2] bcast_S1x1x1_S128x1600x1_0_1_2),
    TRef.binary (TRef.of (T := ⟨S128x1600x1, .i32⟩) main_call2_v5) (TRef.of (T := ⟨S128x1600x1, .i32⟩) main_call2_v9) (TRef.of (T := ⟨S128x1600x1, .i1⟩) main_call2_v10) (cmpi .sle),
    TRef.binary (TRef.of (T := ⟨S128x1600x1, .i1⟩) main_call2_v7) (TRef.of (T := ⟨S128x1600x1, .i1⟩) main_call2_v10) (TRef.of (T := ⟨S128x1600x1, .i1⟩) main_call2_v11) andi,
    TRef.nullary (TRef.of (T := ⟨S_, .i1⟩) main_call2_c_3) (constantI S_ 1 1#1),
    TRef.binary (TRef.of (T := ⟨S128x1600x1, .i1⟩) main_call2_v11) (TRef.of (T := ⟨S_, .i1⟩) main_call2_c_3) (TRef.of (T := ⟨S128x1600, .i1⟩) main_call2_v12) (fun x v => Host.reduce IntOp.andi x v reducesTo_S128x1600x1_S128x1600_d2 h_S_),
    TRef.binary (TRef.of (T := ⟨S1600x128, .f32⟩) main_arg2) (TRef.of (T := ⟨S128x1600x1, .i32⟩) main_call2_v5) (TRef.of (T := ⟨S128x1600x128, .f32⟩) main_call2_v13) (fun x i => Host.gather gather_S1600x128_S128x1600x1_S128x1600x128_2_0_n_n_0_2_1128 x i),
    TRef.unary (TRef.of (T := ⟨S128x1600, .i1⟩) main_call2_v12) (TRef.of (T := ⟨S128x1600x128, .i1⟩) main_call2_v14) (broadcastInDim S128x1600x128 ![0, 1] bcast_S128x1600_S128x1600x128_0_1),
    TRef.nullary (TRef.of (T := ⟨S_, .f32⟩) main_call2_cst) (constant S_ .f32 0x7FC00000#32),
    TRef.unary (TRef.of (T := ⟨S_, .f32⟩) main_call2_cst) (TRef.of (T := ⟨S128x1600x128, .f32⟩) main_call2_v15) (broadcastInDim S128x1600x128 ![] bcast_S_S128x1600x128),
    TRef.ternary (TRef.of (T := ⟨S128x1600x128, .i1⟩) main_call2_v14) (TRef.of (T := ⟨S128x1600x128, .f32⟩) main_call2_v13) (TRef.of (T := ⟨S128x1600x128, .f32⟩) main_call2_v15) (TRef.of (T := ⟨S128x1600x128, .f32⟩) main_v20) select,
    TRef.binary (TRef.of (T := ⟨S128x1600x6, .f32⟩) main_v6) (TRef.of (T := ⟨S128x1600x6, .f32⟩) main_v6) (TRef.of (T := ⟨S128x1600x6, .i1⟩) main_call3_v0) (cmpf .une),
    TRef.nullary (TRef.of (T := ⟨S_, .f32⟩) main_call3_cst) (constant S_ .f32 0x00000000#32),
    TRef.unary (TRef.of (T := ⟨S_, .f32⟩) main_call3_cst) (TRef.of (T := ⟨S128x1600x6, .f32⟩) main_call3_call0_v0) (broadcastInDim S128x1600x6 ![] bcast_S_S128x1600x6),
    TRef.ternary (TRef.of (T := ⟨S128x1600x6, .i1⟩) main_call3_v0) (TRef.of (T := ⟨S128x1600x6, .f32⟩) main_call3_call0_v0) (TRef.of (T := ⟨S128x1600x6, .f32⟩) main_v6) (TRef.of (T := ⟨S128x1600x6, .f32⟩) main_call3_v1) select,
    TRef.nullary (TRef.of (T := ⟨S_, .f32⟩) main_call3_cst_0) (constant S_ .f32 0x7F800000#32),
    TRef.unary (TRef.of (T := ⟨S_, .f32⟩) main_call3_cst_0) (TRef.of (T := ⟨S128x1600x6, .f32⟩) main_call3_v2) (broadcastInDim S128x1600x6 ![] bcast_S_S128x1600x6),
    TRef.binary (TRef.of (T := ⟨S128x1600x6, .f32⟩) main_call3_v1) (TRef.of (T := ⟨S128x1600x6, .f32⟩) main_call3_v2) (TRef.of (T := ⟨S128x1600x6, .i1⟩) main_call3_v3) (cmpf .oeq),
    TRef.nullary (TRef.of (T := ⟨S_, .f32⟩) main_call3_cst_1) (constant S_ .f32 0x7F7FFFFF#32),
    TRef.unary (TRef.of (T := ⟨S_, .f32⟩) main_call3_cst_1) (TRef.of (T := ⟨S128x1600x6, .f32⟩) main_call3_call1_v0) (broadcastInDim S128x1600x6 ![] bcast_S_S128x1600x6),
    TRef.ternary (TRef.of (T := ⟨S128x1600x6, .i1⟩) main_call3_v3) (TRef.of (T := ⟨S128x1600x6, .f32⟩) main_call3_call1_v0) (TRef.of (T := ⟨S128x1600x6, .f32⟩) main_call3_v1) (TRef.of (T := ⟨S128x1600x6, .f32⟩) main_call3_v4) select,
    TRef.nullary (TRef.of (T := ⟨S_, .f32⟩) main_call3_cst_2) (constant S_ .f32 0xFF800000#32),
    TRef.unary (TRef.of (T := ⟨S_, .f32⟩) main_call3_cst_2) (TRef.of (T := ⟨S128x1600x6, .f32⟩) main_call3_v5) (broadcastInDim S128x1600x6 ![] bcast_S_S128x1600x6),
    TRef.binary (TRef.of (T := ⟨S128x1600x6, .f32⟩) main_call3_v4) (TRef.of (T := ⟨S128x1600x6, .f32⟩) main_call3_v5) (TRef.of (T := ⟨S128x1600x6, .i1⟩) main_call3_v6) (cmpf .oeq),
    TRef.nullary (TRef.of (T := ⟨S_, .f32⟩) main_call3_cst_3) (constant S_ .f32 0xFF7FFFFF#32),
    TRef.unary (TRef.of (T := ⟨S_, .f32⟩) main_call3_cst_3) (TRef.of (T := ⟨S128x1600x6, .f32⟩) main_call3_call2_v0) (broadcastInDim S128x1600x6 ![] bcast_S_S128x1600x6),
    TRef.ternary (TRef.of (T := ⟨S128x1600x6, .i1⟩) main_call3_v6) (TRef.of (T := ⟨S128x1600x6, .f32⟩) main_call3_call2_v0) (TRef.of (T := ⟨S128x1600x6, .f32⟩) main_call3_v4) (TRef.of (T := ⟨S128x1600x6, .f32⟩) main_v21) select,
    unary main_v21 main_v22 (broadcastInDim S128x1600x6x1 ![0, 1, 2] bcast_S128x1600x6_S128x1600x6x1_0_1_2 : (⟨S128x1600x6, .f32⟩ : BufTy).Contents (Elt F) → (⟨S128x1600x6x1, .f32⟩ : BufTy).Contents (Elt F)),
    unary main_arg3 main_v23 (broadcastInDim S1x1x6x6 ![2, 3] bcast_S6x6_S1x1x6x6_2_3 : (⟨S6x6, .f32⟩ : BufTy).Contents (Elt F) → (⟨S1x1x6x6, .f32⟩ : BufTy).Contents (Elt F)),
    unary main_v22 main_v24 (broadcastInDim S128x1600x6x6 ![0, 1, 2, 3] bcast_S128x1600x6x1_S128x1600x6x6_0_1_2_3 : (⟨S128x1600x6x1, .f32⟩ : BufTy).Contents (Elt F) → (⟨S128x1600x6x6, .f32⟩ : BufTy).Contents (Elt F)),
    unary main_v23 main_v25 (broadcastInDim S128x1600x6x6 ![0, 1, 2, 3] bcast_S1x1x6x6_S128x1600x6x6_0_1_2_3 : (⟨S1x1x6x6, .f32⟩ : BufTy).Contents (Elt F) → (⟨S128x1600x6x6, .f32⟩ : BufTy).Contents (Elt F)),
    binary main_v24 main_v25 main_v26 (mulf : (⟨S128x1600x6x6, .f32⟩ : BufTy).Contents (Elt F) → (⟨S128x1600x6x6, .f32⟩ : BufTy).Contents (Elt F) → (⟨S128x1600x6x6, .f32⟩ : BufTy).Contents (Elt F)),
    unary main_arg4 main_v27 (broadcastInDim S1x1x6x6 ![2, 3] bcast_S6x6_S1x1x6x6_2_3 : (⟨S6x6, .f32⟩ : BufTy).Contents (Elt F) → (⟨S1x1x6x6, .f32⟩ : BufTy).Contents (Elt F)),
    unary main_v27 main_v28 (broadcastInDim S128x1600x6x6 ![0, 1, 2, 3] bcast_S1x1x6x6_S128x1600x6x6_0_1_2_3 : (⟨S1x1x6x6, .f32⟩ : BufTy).Contents (Elt F) → (⟨S128x1600x6x6, .f32⟩ : BufTy).Contents (Elt F)),
    binary main_v26 main_v28 main_v29 (addf : (⟨S128x1600x6x6, .f32⟩ : BufTy).Contents (Elt F) → (⟨S128x1600x6x6, .f32⟩ : BufTy).Contents (Elt F) → (⟨S128x1600x6x6, .f32⟩ : BufTy).Contents (Elt F)),
    unary main_v29 main_v30 ((extractStridedSlice S128x1600x6x1 ![0, 0, 0, 0] · slices_S128x1600x6x6_S128x1600x6x1_0_0_0_0) : (⟨S128x1600x6x6, .f32⟩ : BufTy).Contents (Elt F) → (⟨S128x1600x6x1, .f32⟩ : BufTy).Contents (Elt F)),
    unary main_v29 main_v31 ((extractStridedSlice S128x1600x6x5 ![0, 0, 0, 1] · slices_S128x1600x6x6_S128x1600x6x5_0_0_0_1) : (⟨S128x1600x6x6, .f32⟩ : BufTy).Contents (Elt F) → (⟨S128x1600x6x5, .f32⟩ : BufTy).Contents (Elt F)),
    unary main_v31 main_v32 (Host.sin : (⟨S128x1600x6x5, .f32⟩ : BufTy).Contents (Elt F) → (⟨S128x1600x6x5, .f32⟩ : BufTy).Contents (Elt F)),
    binary main_v30 main_v32 main_v33 (fn_main_v33 (F := F)),
    reshape main_v33 main_v34 (rfl : (.f32 : EltTy) = .f32) shapeCasts_S128x1600x6x6_S128x1600x36,
    binary main_v34 main_v9 main_v35 (fn_main_v35 (F := F)),
    binary main_v35 main_arg5 main_v36 ((fun l r => Host.dotGeneral dot_S128x1600x37_S37x128_S128x1600x128_2_0_01_1_n_n none l r) : (⟨S128x1600x37, .f32⟩ : BufTy).Contents (Elt F) → (⟨S37x128, .f32⟩ : BufTy).Contents (Elt F) → (⟨S128x1600x128, .f32⟩ : BufTy).Contents (Elt F)),
    unary main_arg6 main_v37 (broadcastInDim S1x1x128 ![2] bcast_S128_S1x1x128_2 : (⟨S128, .f32⟩ : BufTy).Contents (Elt F) → (⟨S1x1x128, .f32⟩ : BufTy).Contents (Elt F)),
    unary main_v37 main_v38 (broadcastInDim S128x1600x128 ![0, 1, 2] bcast_S1x1x128_S128x1600x128_0_1_2 : (⟨S1x1x128, .f32⟩ : BufTy).Contents (Elt F) → (⟨S128x1600x128, .f32⟩ : BufTy).Contents (Elt F)),
    binary main_v36 main_v38 main_v39 (addf : (⟨S128x1600x128, .f32⟩ : BufTy).Contents (Elt F) → (⟨S128x1600x128, .f32⟩ : BufTy).Contents (Elt F) → (⟨S128x1600x128, .f32⟩ : BufTy).Contents (Elt F)),
    binary main_v39 main_v20 main_v40 (addf : (⟨S128x1600x128, .f32⟩ : BufTy).Contents (Elt F) → (⟨S128x1600x128, .f32⟩ : BufTy).Contents (Elt F) → (⟨S128x1600x128, .f32⟩ : BufTy).Contents (Elt F)),
    binary main_v40 main_v18 main_v41 (addf : (⟨S128x1600x128, .f32⟩ : BufTy).Contents (Elt F) → (⟨S128x1600x128, .f32⟩ : BufTy).Contents (Elt F) → (⟨S128x1600x128, .f32⟩ : BufTy).Contents (Elt F)) ]

set_option maxRecDepth 8192 in
set_option maxHeartbeats 4000000 in
/-- The program is the run of those operations. -/
theorem main_eq (c : Dev nD) : main (F := F) c = seq ops := rfl

/-- No array of the program lives in an inner scope. -/
theorem scopedRefs_eq : (Finset.univ.filter fun b : Ref sig .tc => b.isScoped) = ∅ := by decide

/-- Nor does a semaphore. -/
theorem scopedSems_eq : (Finset.univ.filter fun sm : SemLoc sig => sm.isScoped .tc) = ∅ := by decide
set_option maxRecDepth 8192 in
/-- Every operation touches arrays of the program only. -/
theorem ops_sub : (ops : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., binary_bufs_sub .., reshape_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., unary_bufs_sub .., unary_bufs_sub .., binary_bufs_sub .., binary_bufs_sub .., reshape_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., nullary_bufs_sub .., unary_bufs_sub .., binary_bufs_sub .., nullary_bufs_sub .., unary_bufs_sub .., ternary_bufs_sub .., unary_bufs_sub .., unary_bufs_sub .., unary_bufs_sub .., unary_bufs_sub .., binary_bufs_sub .., unary_bufs_sub .., unary_bufs_sub .., binary_bufs_sub .., unary_bufs_sub .., unary_bufs_sub .., unary_bufs_sub .., binary_bufs_sub .., reshape_bufs_sub .., binary_bufs_sub .., binary_bufs_sub .., unary_bufs_sub .., unary_bufs_sub .., binary_bufs_sub .., binary_bufs_sub .., binary_bufs_sub ..⟩

set_option maxRecDepth 8192 in
set_option maxHeartbeats 46800000 in
/-- The program ends with the result's array at `result` of its arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v41).trans (by simp only [ops, TRef.binary, TRef.nullary, TRef.ternary, TRef.unary, TRef.toBuf, TRef.ofBuf, cast_eq]; after_results_simp <;> rfl),
      (h c main_arg0).trans (by simp only [ops, TRef.binary, TRef.nullary, TRef.ternary, TRef.unary, TRef.toBuf, TRef.ofBuf, cast_eq]; after_results_simp <;> rfl),
      (h c main_arg1).trans (by simp only [ops, TRef.binary, TRef.nullary, TRef.ternary, TRef.unary, TRef.toBuf, TRef.ofBuf, cast_eq]; after_results_simp <;> rfl),
      (h c main_arg2).trans (by simp only [ops, TRef.binary, TRef.nullary, TRef.ternary, TRef.unary, TRef.toBuf, TRef.ofBuf, cast_eq]; after_results_simp <;> rfl),
      (h c main_arg3).trans (by simp only [ops, TRef.binary, TRef.nullary, TRef.ternary, TRef.unary, TRef.toBuf, TRef.ofBuf, cast_eq]; after_results_simp <;> rfl),
      (h c main_arg4).trans (by simp only [ops, TRef.binary, TRef.nullary, TRef.ternary, TRef.unary, TRef.toBuf, TRef.ofBuf, cast_eq]; after_results_simp <;> rfl),
      (h c main_arg5).trans (by simp only [ops, TRef.binary, TRef.nullary, TRef.ternary, TRef.unary, TRef.toBuf, TRef.ofBuf, cast_eq]; after_results_simp <;> rfl),
      (h c main_arg6).trans (by simp only [ops, TRef.binary, TRef.nullary, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Model

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.Plain
public import proofs.«01_k».proof.Proof.Gen.Plain.Frame
public import proofs.«01_k».proof.Proof.Gen.PlainIdeal
public import proofs.«01_k».proof.Proof.Gen.PlainIdeal.Frame
public import proofs.«01_k».proof.Proof.Gen.PlainIdeal.Value
public import proofs.«01_k».proof.Proof.Gen.Flip
public import proofs.«01_k».proof.Proof.Gen.Flip.Frame
public import proofs.«01_k».proof.Proof.Gen.FlipIdeal
public import proofs.«01_k».proof.Proof.Gen.FlipIdeal.Frame
public import proofs.«01_k».proof.Proof.Gen.FlipIdeal.Value
public import proofs.«01_k».proof.Proof.Gen.ReferenceIdeal
public import proofs.«01_k».proof.Proof.Gen.Pre_inputs_in_range
public import proofs.«01_k».proof.Proof.Gen.Pre_bounded
public import proofs.«01_k».proof.Proof.Gen.Post_near
public import proofs.«01_k».proof.Proof.KernelValue
public import proofs.«01_k».proof.Proof.PlainValue
public import proofs.«01_k».proof.Proof.FlipValue
public import proofs.«01_k».proof.Proof.NearClaim
public import proofs.«01_k».proof.Proof.RefRun
public import proofs.«01_k».proof.Proof.RefValue
public import Idealize.ShloMosaic.Lib.Quiescent

@[expose] public section

noncomputable section

namespace Cert.Proof

open Idealize.ShloMosaic Idealize.SL.Sem

/-- The reference runs, leaves its arguments unchanged and has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Model.run (F := Ideal) m ρ)

/-- The kernel's and the reference's result arrays are equal. -/
theorem equal : Cert.algebraic_KernelIdeal_ReferenceIdeal_pre_inputs_in_range := by
  intro m ρ m' ρ' hpre hagree
  refine ⟨fun c => Cert.KernelIdeal.Launched.embed m c, ?_, ?_⟩
  · exact (θ_run Cert.KernelIdeal.defs _ _).mono (fun _ h c => ⟨(h c).1.trans (Cert.KernelIdeal.Launched.final m c), (h c).2⟩)
      (Cert.KernelIdeal.Value.run_blocks (F := Ideal) m ρ)
  refine (θ_run Cert.ReferenceIdeal.defs _ _).mono (fun _ h c => ⟨(h c).1.trans ?_, (h c).2⟩)
    (Cert.ReferenceIdeal.Model.run (F := Ideal) m' ρ')
  obtain ⟨e0, e1, e2, e3, e4, e5, e6⟩ := hagree c
  rw [e0, e1, e2, e3, e4, e5, e6]
  have hf := Cert.Range.finite _ _ _ _ _ _ _ (fun i => congrFun (hpre c).1 i)
  have hc := Cert.Range.counts _ _ _ _ _ _ _ (fun i => congrFun (hpre c).2 i)
  exact Cert.ReferenceIdeal.Model.result_eq _ _ _ _ _ _ _ hf hc

/-- The simpler kernel's and the reference's result arrays are equal. -/
theorem plain_equal : Cert.algebraic_PlainIdeal_ReferenceIdeal_pre_inputs_in_range := by
  intro m ρ m' ρ' hpre hagree
  refine ⟨fun c => Cert.PlainIdeal.Launched.embed m c, ?_, ?_⟩
  · exact (θ_run Cert.PlainIdeal.defs _ _).mono (fun _ h c => ⟨(h c).1.trans (Cert.PlainIdeal.Launched.final m c), (h c).2⟩)
      (Cert.PlainIdeal.Value.run_blocks (F := Ideal) m ρ)
  refine (θ_run Cert.ReferenceIdeal.defs _ _).mono (fun _ h c => ⟨(h c).1.trans ?_, (h c).2⟩)
    (Cert.ReferenceIdeal.Model.run (F := Ideal) m' ρ')
  obtain ⟨e0, e1, e2, e3, e4, e5, e6⟩ := hagree c
  rw [e0, e1, e2, e3, e4, e5, e6]
  have hf := Cert.Range.finite _ _ _ _ _ _ _ (fun i => congrFun (hpre c).1 i)
  have hc := Cert.Range.counts _ _ _ _ _ _ _ (fun i => congrFun (hpre c).2 i)
  exact Cert.ReferenceIdeal.Model.result_eq _ _ _ _ _ _ _ hf hc

/-- The result array of the kernel with the approximated sine is near the reference's. -/
theorem near : Cert.holds_FlipIdeal_near_pre_bounded := by
  intro m ρ hpre
  refine (θ_run Cert.FlipIdeal.defs _ _).mono (fun _ h c => ?_) (Cert.FlipIdeal.Value.run_blocks (F := Ideal) m ρ)
  obtain ⟨e0, e1, e2, e3, e4, e5, e6⟩ := (h c).2
  refine ⟨e0, e1, e2, e3, e4, e5, e6, ?_⟩
  rw [(h c).1.trans (Cert.FlipIdeal.Launched.final m c)]
  obtain ⟨p0, p1, p2, p3, p4, p5, p6, p7, p8⟩ := hpre c
  exact Cert.Near.post _ _ _ _ _ _ _
    ⟨Cert.Bounded.item _ _ _ _ _ _ _ (fun i => congrFun p0 i), Cert.Bounded.counts _ _ _ _ _ _ _ (fun i => congrFun p1 i),
      Cert.Bounded.input _ _ _ _ _ _ _ (fun i => congrFun p2 i), Cert.Bounded.frequency _ _ _ _ _ _ _ (fun i => congrFun p3 i),
      Cert.Bounded.phase _ _ _ _ _ _ _ (fun i => congrFun p4 i), Cert.Bounded.flag _ _ _ _ _ _ _ (fun i => congrFun p5 i),
      Cert.Bounded.position _ _ _ _ _ _ _ (fun i => congrFun p6 i), Cert.Bounded.weight _ _ _ _ _ _ _ (fun i => congrFun p7 i),
      Cert.Bounded.bias _ _ _ _ _ _ _ (fun i => congrFun p8 i)⟩

/-- All claims. -/
theorem claim : Cert.Claim :=
  ⟨Cert.Kernel.Gen.facts, Cert.KernelIdeal.Gen.facts, Cert.ReferenceIdeal.Gen.facts, Cert.Plain.Gen.facts, Cert.PlainIdeal.Gen.facts,
    Cert.Flip.Gen.facts, Cert.FlipIdeal.Gen.facts, Cert.Pre_inputs_in_range.Gen.facts, Cert.Pre_bounded.Gen.facts, Cert.Post_near.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Plain.Gen.frame m ρ, fun m ρ _ => Cert.PlainIdeal.Gen.frame m ρ, fun m ρ _ => Cert.PlainIdeal.Gen.frame m ρ,
    fun m ρ _ => Cert.Flip.Gen.frame m ρ, fun m ρ _ => Cert.FlipIdeal.Gen.frame m ρ, fun m ρ _ => Cert.FlipIdeal.Gen.frame m ρ,
    trivial, equal, trivial, plain_equal, trivial, near⟩

end Cert.Proof

end
